-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S8x15x32x1024 : Shape := ⟨4, ![8, 15, 32, 1024]⟩
abbrev S8x32x1024 : Shape := ⟨3, ![8, 32, 1024]⟩
abbrev S8x2 : Shape := ⟨2, ![8, 2]⟩
abbrev S8x15 : Shape := ⟨2, ![8, 15]⟩
abbrev S_ : Shape := ⟨0, ![]⟩
abbrev S32x1024 : Shape := ⟨2, ![32, 1024]⟩
abbrev S1x32x1024 : Shape := ⟨3, ![1, 32, 1024]⟩
abbrev S1x1 : Shape := ⟨2, ![1, 1]⟩
abbrev S1x1x32x1024 : Shape := ⟨4, ![1, 1, 32, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S8x15x32x1024, .bf16⟩
  | .local _ .vmem, ⟨3, _⟩ => ⟨S8x32x1024, .bf16⟩
  | _, _ => ⟨S4096x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 138 → Bool
  | ⟨i, _⟩ => dmaSemScopedAt i

abbrev sig : RefSig :=
  (ofTc nBuf bufTy 1 138 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_86 : BitVec 32 := 1#32
  let v178 : BitVec 32 := Scalar.muli v176 c1_i32_86
  let v179 : BitVec 32 := Scalar.addi c0_i32_87 v178
  v179.toNat
def k0_dev2 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_89 : BitVec 32 := 1#32
  let v180 : BitVec 32 := Scalar.muli v134 c1_i32_89
  let v181 : BitVec 32 := Scalar.addi c0_i32_90 v180
  v181.toNat
def k0_off1 (d0 : Dev nD) (c0_i32_92 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c32_i32 : BitVec 32 := 32#32
  let v182 : BitVec 32 := Scalar.muli v92 c32_i32
  let v183 : BitVec 32 := Scalar.addi c0_i32_92 v182
  let c0_i32_93 : BitVec 32 := 0#32
  ![v183.toNat, 0]
def k0_dev3 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_105 : BitVec 32 := 1#32
  let v190 : BitVec 32 := Scalar.muli v134 c1_i32_105
  let v191 : BitVec 32 := Scalar.addi c0_i32_106 v190
  v191.toNat
def k0_dev4 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_124 : BitVec 32 := 1#32
  let v208 : BitVec 32 := Scalar.muli v134 c1_i32_124
  let v209 : BitVec 32 := Scalar.addi c0_i32_125 v208
  v209.toNat
def k0_dev5 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_143 : BitVec 32 := 1#32
  let v226 : BitVec 32 := Scalar.muli v134 c1_i32_143
  let v227 : BitVec 32 := Scalar.addi c0_i32_144 v226
  v227.toNat
def k0_dev6 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_162 : BitVec 32 := 1#32
  let v244 : BitVec 32 := Scalar.muli v134 c1_i32_162
  let v245 : BitVec 32 := Scalar.addi c0_i32_163 v244
  v245.toNat
def k0_dev7 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_181 : BitVec 32 := 1#32
  let v262 : BitVec 32 := Scalar.muli v176 c1_i32_181
  let v263 : BitVec 32 := Scalar.addi c0_i32_182 v262
  v263.toNat
def k0_dev8 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_199 : BitVec 32 := 1#32
  let v280 : BitVec 32 := Scalar.muli v176 c1_i32_199
  let v281 : BitVec 32 := Scalar.addi c0_i32_200 v280
  v281.toNat
def k0_dev9 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_217 : BitVec 32 := 1#32
  let v298 : BitVec 32 := Scalar.muli v176 c1_i32_217
  let v299 : BitVec 32 := Scalar.addi c0_i32_218 v298
  v299.toNat
def k0_dev10 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_235 : BitVec 32 := 1#32
  let v316 : BitVec 32 := Scalar.muli v176 c1_i32_235
  let v317 : BitVec 32 := Scalar.addi c0_i32_236 v316
  v317.toNat
def k0_off2 (d0 : Dev nD) (c0_i32_260 : BitVec 32) (c31_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let v334 : BitVec 32 := Scalar.addi v92 c31_i32
  let c16_i32_254 : BitVec 32 := 16#32
  let v335 : BitVec 32 := Scalar.remsi v334 c16_i32_254
  let c32_i32_259 : BitVec 32 := 32#32
  let v339 : BitVec 32 := Scalar.muli v335 c32_i32_259
  let v340 : BitVec 32 := Scalar.addi c0_i32_260 v339
  let c0_i32_261 : BitVec 32 := 0#32
  ![v340.toNat, 0]
def k0_off2_at (r : Fin 180) : BitVec 32 × BitVec 32 :=
  if r.val < 90 then
    if r.val < 45 then
      if r.val < 22 then
        if r.val < 11 then
          if r.val < 5 then
            if r.val < 2 then
              if r.val < 1 then
                (0#32, 31#32)
              else
                (512#32, 31#32)
            else
              if r.val < 3 then
                (1024#32, 31#32)
              else
                if r.val < 4 then
                  (1536#32, 31#32)
                else
                  (0#32, 30#32)
          else
            if r.val < 8 then
              if r.val < 6 then
                (512#32, 30#32)
              else
                if r.val < 7 then
                  (1024#32, 30#32)
                else
                  (1536#32, 30#32)
            else
              if r.val < 9 then
                (0#32, 29#32)
              else
                if r.val < 10 then
                  (512#32, 29#32)
                else
                  (1024#32, 29#32)
        else
          if r.val < 16 then
            if r.val < 13 then
              if r.val < 12 then
                (1536#32, 29#32)
              else
                (0#32, 28#32)
            else
              if r.val < 14 then
                (512#32, 28#32)
              else
                if r.val < 15 then
                  (1024#32, 28#32)
                else
                  (1536#32, 28#32)
          else
            if r.val < 19 then
              if r.val < 17 then
                (0#32, 27#32)
              else
                if r.val < 18 then
                  (512#32, 27#32)
                else
                  (1024#32, 27#32)
            else
              if r.val < 20 then
                (1536#32, 27#32)
              else
                if r.val < 21 then
                  (0#32, 26#32)
                else
                  (512#32, 26#32)
      else
        if r.val < 33 then
          if r.val < 27 then
            if r.val < 24 then
              if r.val < 23 then
                (1024#32, 26#32)
              else
                (1536#32, 26#32)
            else
              if r.val < 25 then
                (0#32, 25#32)
              else
                if r.val < 26 then
                  (512#32, 25#32)
                else
                  (1024#32, 25#32)
          else
            if r.val < 30 then
              if r.val < 28 then
                (1536#32, 25#32)
              else
                if r.val < 29 then
                  (0#32, 24#32)
                else
                  (512#32, 24#32)
            else
              if r.val < 31 then
                (1024#32, 24#32)
              else
                if r.val < 32 then
                  (1536#32, 24#32)
                else
                  (0#32, 23#32)
        else
          if r.val < 39 then
            if r.val < 36 then
              if r.val < 34 then
                (512#32, 23#32)
              else
                if r.val < 35 then
                  (1024#32, 23#32)
                else
                  (1536#32, 23#32)
            else
              if r.val < 37 then
                (0#32, 22#32)
              else
                if r.val < 38 then
                  (512#32, 22#32)
                else
                  (1024#32, 22#32)
          else
            if r.val < 42 then
              if r.val < 40 then
                (1536#32, 22#32)
              else
                if r.val < 41 then
                  (0#32, 21#32)
                else
                  (512#32, 21#32)
            else
              if r.val < 43 then
                (1024#32, 21#32)
              else
                if r.val < 44 then
                  (1536#32, 21#32)
                else
                  (0#32, 20#32)
    else
      if r.val < 67 then
        if r.val < 56 then
          if r.val < 50 then
            if r.val < 47 then
              if r.val < 46 then
                (512#32, 20#32)
              else
                (1024#32, 20#32)
            else
              if r.val < 48 then
                (1536#32, 20#32)
              else
                if r.val < 49 then
                  (0#32, 19#32)
                else
                  (512#32, 19#32)
          else
            if r.val < 53 then
              if r.val < 51 then
                (1024#32, 19#32)
              else
                if r.val < 52 then
                  (1536#32, 19#32)
                else
                  (0#32, 18#32)
            else
              if r.val < 54 then
                (512#32, 18#32)
              else
                if r.val < 55 then
                  (1024#32, 18#32)
                else
                  (1536#32, 18#32)
        else
          if r.val < 61 then
            if r.val < 58 then
              if r.val < 57 then
                (0#32, 17#32)
              else
                (0#32, 1#32)
            else
              if r.val < 59 then
                (512#32, 17#32)
              else
                if r.val < 60 then
                  (512#32, 1#32)
                else
                  (1024#32, 17#32)
          else
            if r.val < 64 then
              if r.val < 62 then
                (1024#32, 1#32)
              else
                if r.val < 63 then
                  (1536#32, 17#32)
                else
                  (1536#32, 1#32)
            else
              if r.val < 65 then
                (2048#32, 15#32)
              else
                if r.val < 66 then
                  (2560#32, 15#32)
                else
                  (3072#32, 15#32)
      else
        if r.val < 78 then
          if r.val < 72 then
            if r.val < 69 then
              if r.val < 68 then
                (3584#32, 15#32)
              else
                (0#32, 16#32)
            else
              if r.val < 70 then
                (512#32, 16#32)
              else
                if r.val < 71 then
                  (1024#32, 16#32)
                else
                  (1536#32, 16#32)
          else
            if r.val < 75 then
              if r.val < 73 then
                (2048#32, 0#32)
              else
                if r.val < 74 then
                  (2560#32, 0#32)
                else
                  (3072#32, 0#32)
            else
              if r.val < 76 then
                (3584#32, 0#32)
              else
                if r.val < 77 then
                  (0#32, 15#32)
                else
                  (512#32, 15#32)
        else
          if r.val < 84 then
            if r.val < 81 then
              if r.val < 79 then
                (1024#32, 15#32)
              else
                if r.val < 80 then
                  (1536#32, 15#32)
                else
                  (2048#32, 1#32)
            else
              if r.val < 82 then
                (2560#32, 1#32)
              else
                if r.val < 83 then
                  (3072#32, 1#32)
                else
                  (3584#32, 1#32)
          else
            if r.val < 87 then
              if r.val < 85 then
                (0#32, 14#32)
              else
                if r.val < 86 then
                  (512#32, 14#32)
                else
                  (1024#32, 14#32)
            else
              if r.val < 88 then
                (1536#32, 14#32)
              else
                if r.val < 89 then
                  (2048#32, 2#32)
                else
                  (2560#32, 2#32)
  else
    if r.val < 135 then
      if r.val < 112 then
        if r.val < 101 then
          if r.val < 95 then
            if r.val < 92 then
              if r.val < 91 then
                (3072#32, 2#32)
              else
                (3584#32, 2#32)
            else
              if r.val < 93 then
                (0#32, 13#32)
              else
                if r.val < 94 then
                  (512#32, 13#32)
                else
                  (1024#32, 13#32)
          else
            if r.val < 98 then
              if r.val < 96 then
                (1536#32, 13#32)
              else
                if r.val < 97 then
                  (2048#32, 3#32)
                else
                  (2560#32, 3#32)
            else
              if r.val < 99 then
                (3072#32, 3#32)
              else
                if r.val < 100 then
                  (3584#32, 3#32)
                else
                  (0#32, 12#32)
        else
          if r.val < 106 then
            if r.val < 103 then
              if r.val < 102 then
                (512#32, 12#32)
              else
                (1024#32, 12#32)
            else
              if r.val < 104 then
                (1536#32, 12#32)
              else
                if r.val < 105 then
                  (2048#32, 4#32)
                else
                  (2560#32, 4#32)
          else
            if r.val < 109 then
              if r.val < 107 then
                (3072#32, 4#32)
              else
                if r.val < 108 then
                  (3584#32, 4#32)
                else
                  (0#32, 11#32)
            else
              if r.val < 110 then
                (512#32, 11#32)
              else
                if r.val < 111 then
                  (1024#32, 11#32)
                else
                  (1536#32, 11#32)
      else
        if r.val < 123 then
          if r.val < 117 then
            if r.val < 114 then
              if r.val < 113 then
                (2048#32, 5#32)
              else
                (2560#32, 5#32)
            else
              if r.val < 115 then
                (3072#32, 5#32)
              else
                if r.val < 116 then
                  (3584#32, 5#32)
                else
                  (0#32, 10#32)
          else
            if r.val < 120 then
              if r.val < 118 then
                (512#32, 10#32)
              else
                if r.val < 119 then
                  (1024#32, 10#32)
                else
                  (1536#32, 10#32)
            else
              if r.val < 121 then
                (2048#32, 6#32)
              else
                if r.val < 122 then
                  (2560#32, 6#32)
                else
                  (3072#32, 6#32)
        else
          if r.val < 129 then
            if r.val < 126 then
              if r.val < 124 then
                (3584#32, 6#32)
              else
                if r.val < 125 then
                  (0#32, 9#32)
                else
                  (512#32, 9#32)
            else
              if r.val < 127 then
                (1024#32, 9#32)
              else
                if r.val < 128 then
                  (1536#32, 9#32)
                else
                  (2048#32, 7#32)
          else
            if r.val < 132 then
              if r.val < 130 then
                (2560#32, 7#32)
              else
                if r.val < 131 then
                  (3072#32, 7#32)
                else
                  (3584#32, 7#32)
            else
              if r.val < 133 then
                (0#32, 8#32)
              else
                if r.val < 134 then
                  (512#32, 8#32)
                else
                  (1024#32, 8#32)
    else
      if r.val < 157 then
        if r.val < 146 then
          if r.val < 140 then
            if r.val < 137 then
              if r.val < 136 then
                (1536#32, 8#32)
              else
                (2048#32, 8#32)
            else
              if r.val < 138 then
                (2560#32, 8#32)
              else
                if r.val < 139 then
                  (3072#32, 8#32)
                else
                  (3584#32, 8#32)
          else
            if r.val < 143 then
              if r.val < 141 then
                (0#32, 7#32)
              else
                if r.val < 142 then
                  (512#32, 7#32)
                else
                  (1024#32, 7#32)
            else
              if r.val < 144 then
                (1536#32, 7#32)
              else
                if r.val < 145 then
                  (2048#32, 9#32)
                else
                  (2560#32, 9#32)
        else
          if r.val < 151 then
            if r.val < 148 then
              if r.val < 147 then
                (3072#32, 9#32)
              else
                (3584#32, 9#32)
            else
              if r.val < 149 then
                (0#32, 6#32)
              else
                if r.val < 150 then
                  (512#32, 6#32)
                else
                  (1024#32, 6#32)
          else
            if r.val < 154 then
              if r.val < 152 then
                (1536#32, 6#32)
              else
                if r.val < 153 then
                  (2048#32, 10#32)
                else
                  (2560#32, 10#32)
            else
              if r.val < 155 then
                (3072#32, 10#32)
              else
                if r.val < 156 then
                  (3584#32, 10#32)
                else
                  (0#32, 5#32)
      else
        if r.val < 168 then
          if r.val < 162 then
            if r.val < 159 then
              if r.val < 158 then
                (512#32, 5#32)
              else
                (1024#32, 5#32)
            else
              if r.val < 160 then
                (1536#32, 5#32)
              else
                if r.val < 161 then
                  (2048#32, 11#32)
                else
                  (2560#32, 11#32)
          else
            if r.val < 165 then
              if r.val < 163 then
                (3072#32, 11#32)
              else
                if r.val < 164 then
                  (3584#32, 11#32)
                else
                  (0#32, 4#32)
            else
              if r.val < 166 then
                (512#32, 4#32)
              else
                if r.val < 167 then
                  (1024#32, 4#32)
                else
                  (1536#32, 4#32)
        else
          if r.val < 174 then
            if r.val < 171 then
              if r.val < 169 then
                (2048#32, 12#32)
              else
                if r.val < 170 then
                  (2560#32, 12#32)
                else
                  (3072#32, 12#32)
            else
              if r.val < 172 then
                (3584#32, 12#32)
              else
                if r.val < 173 then
                  (0#32, 3#32)
                else
                  (512#32, 3#32)
          else
            if r.val < 177 then
              if r.val < 175 then
                (1024#32, 3#32)
              else
                if r.val < 176 then
                  (1536#32, 3#32)
                else
                  (2048#32, 13#32)
            else
              if r.val < 178 then
                (2560#32, 13#32)
              else
                if r.val < 179 then
                  (3072#32, 13#32)
                else
                  (3584#32, 13#32)
def k0_dev11 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_276 : BitVec 32 := 1#32
  let v350 : BitVec 32 := Scalar.muli v134 c1_i32_276
  let v351 : BitVec 32 := Scalar.addi c0_i32_277 v350
  v351.toNat
def k0_dev12 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_318 : BitVec 32 := 1#32
  let v384 : BitVec 32 := Scalar.muli v134 c1_i32_318
  let v385 : BitVec 32 := Scalar.addi c0_i32_319 v384
  v385.toNat
def k0_dev13 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_360 : BitVec 32 := 1#32
  let v418 : BitVec 32 := Scalar.muli v134 c1_i32_360
  let v419 : BitVec 32 := Scalar.addi c0_i32_361 v418
  v419.toNat
def k0_dev14 (d0 : Dev nD) : Nat :=
  let c0_i32_403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_402 : BitVec 32 := 1#32
  let v452 : BitVec 32 := Scalar.muli v134 c1_i32_402
  let v453 : BitVec 32 := Scalar.addi c0_i32_403 v452
  v453.toNat
def k0_off3 (d0 : Dev nD) (c2048_i32_429 : BitVec 32) (c0_i32_422 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_421 : BitVec 32 := 1#32
  let v470 : BitVec 32 := Scalar.addi v92 c1_i32_421
  let v471 : BitVec 32 := Scalar.addi v470 c0_i32_422
  let c16_i32_423 : BitVec 32 := 16#32
  let v472 : BitVec 32 := Scalar.remsi v471 c16_i32_423
  let c32_i32_428 : BitVec 32 := 32#32
  let v476 : BitVec 32 := Scalar.muli v472 c32_i32_428
  let v477 : BitVec 32 := Scalar.addi c2048_i32_429 v476
  let c0_i32_430 : BitVec 32 := 0#32
  ![v477.toNat, 0]
def k0_dev15 (d0 : Dev nD) : Nat :=
  let c0_i32_446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_445 : BitVec 32 := 1#32
  let v487 : BitVec 32 := Scalar.muli v176 c1_i32_445
  let v488 : BitVec 32 := Scalar.addi c0_i32_446 v487
  v488.toNat
def k0_dev16 (d0 : Dev nD) : Nat :=
  let c0_i32_489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_488 : BitVec 32 := 1#32
  let v522 : BitVec 32 := Scalar.muli v176 c1_i32_488
  let v523 : BitVec 32 := Scalar.addi c0_i32_489 v522
  v523.toNat
def k0_dev17 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_531 : BitVec 32 := 1#32
  let v557 : BitVec 32 := Scalar.muli v176 c1_i32_531
  let v558 : BitVec 32 := Scalar.addi c0_i32_532 v557
  v558.toNat
def k0_dev18 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_574 : BitVec 32 := 1#32
  let v592 : BitVec 32 := Scalar.muli v176 c1_i32_574
  let v593 : BitVec 32 := Scalar.addi c0_i32_575 v592
  v593.toNat
def k0_dev19 (d0 : Dev nD) : Nat :=
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_628 : BitVec 32 := 1#32
  let v632 : BitVec 32 := Scalar.muli v134 c1_i32_628
  let v633 : BitVec 32 := Scalar.addi c0_i32_629 v632
  v633.toNat
def k0_dev20 (d0 : Dev nD) : Nat :=
  let c0_i32_684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_683 : BitVec 32 := 1#32
  let v672 : BitVec 32 := Scalar.muli v134 c1_i32_683
  let v673 : BitVec 32 := Scalar.addi c0_i32_684 v672
  v673.toNat
def k0_dev21 (d0 : Dev nD) : Nat :=
  let c0_i32_739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_738 : BitVec 32 := 1#32
  let v712 : BitVec 32 := Scalar.muli v134 c1_i32_738
  let v713 : BitVec 32 := Scalar.addi c0_i32_739 v712
  v713.toNat
def k0_dev22 (d0 : Dev nD) : Nat :=
  let c0_i32_794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_793 : BitVec 32 := 1#32
  let v752 : BitVec 32 := Scalar.muli v134 c1_i32_793
  let v753 : BitVec 32 := Scalar.addi c0_i32_794 v752
  v753.toNat
def k0_dev23 (d0 : Dev nD) : Nat :=
  let c0_i32_850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_849 : BitVec 32 := 1#32
  let v793 : BitVec 32 := Scalar.muli v176 c1_i32_849
  let v794 : BitVec 32 := Scalar.addi c0_i32_850 v793
  v794.toNat
def k0_dev24 (d0 : Dev nD) : Nat :=
  let c0_i32_906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_905 : BitVec 32 := 1#32
  let v834 : BitVec 32 := Scalar.muli v176 c1_i32_905
  let v835 : BitVec 32 := Scalar.addi c0_i32_906 v834
  v835.toNat
def k0_dev25 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_961 : BitVec 32 := 1#32
  let v875 : BitVec 32 := Scalar.muli v176 c1_i32_961
  let v876 : BitVec 32 := Scalar.addi c0_i32_962 v875
  v876.toNat
def k0_dev26 (d0 : Dev nD) : Nat :=
  let c0_i32_1018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_1017 : BitVec 32 := 1#32
  let v916 : BitVec 32 := Scalar.muli v176 c1_i32_1017
  let v917 : BitVec 32 := Scalar.addi c0_i32_1018 v916
  v917.toNat
def k0_dev27 (d0 : Dev nD) : Nat :=
  let c0_i32_1073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_1072 : BitVec 32 := 1#32
  let v956 : BitVec 32 := Scalar.muli v134 c1_i32_1072
  let v957 : BitVec 32 := Scalar.addi c0_i32_1073 v956
  v957.toNat
def k0_dev28 (d0 : Dev nD) : Nat :=
  let c0_i32_1129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_1128 : BitVec 32 := 1#32
  let v996 : BitVec 32 := Scalar.muli v134 c1_i32_1128
  let v997 : BitVec 32 := Scalar.addi c0_i32_1129 v996
  v997.toNat
def k0_dev29 (d0 : Dev nD) : Nat :=
  let c0_i32_1185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_1184 : BitVec 32 := 1#32
  let v1036 : BitVec 32 := Scalar.muli v134 c1_i32_1184
  let v1037 : BitVec 32 := Scalar.addi c0_i32_1185 v1036
  v1037.toNat
def k0_dev30 (d0 : Dev nD) : Nat :=
  let c0_i32_1241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_1240 : BitVec 32 := 1#32
  let v1076 : BitVec 32 := Scalar.muli v134 c1_i32_1240
  let v1077 : BitVec 32 := Scalar.addi c0_i32_1241 v1076
  v1077.toNat
def k0_dev31 (d0 : Dev nD) : Nat :=
  let c0_i32_1298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_1297 : BitVec 32 := 1#32
  let v1117 : BitVec 32 := Scalar.muli v176 c1_i32_1297
  let v1118 : BitVec 32 := Scalar.addi c0_i32_1298 v1117
  v1118.toNat
def k0_dev32 (d0 : Dev nD) : Nat :=
  let c0_i32_1355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_1354 : BitVec 32 := 1#32
  let v1158 : BitVec 32 := Scalar.muli v176 c1_i32_1354
  let v1159 : BitVec 32 := Scalar.addi c0_i32_1355 v1158
  v1159.toNat
def k0_dev33 (d0 : Dev nD) : Nat :=
  let c0_i32_1412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_1411 : BitVec 32 := 1#32
  let v1199 : BitVec 32 := Scalar.muli v176 c1_i32_1411
  let v1200 : BitVec 32 := Scalar.addi c0_i32_1412 v1199
  v1200.toNat
def k0_dev34 (d0 : Dev nD) : Nat :=
  let c0_i32_1469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_1468 : BitVec 32 := 1#32
  let v1240 : BitVec 32 := Scalar.muli v176 c1_i32_1468
  let v1241 : BitVec 32 := Scalar.addi c0_i32_1469 v1240
  v1241.toNat
def k0_dev35 (d0 : Dev nD) : Nat :=
  let c0_i32_1524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_1523 : BitVec 32 := 1#32
  let v1280 : BitVec 32 := Scalar.muli v134 c1_i32_1523
  let v1281 : BitVec 32 := Scalar.addi c0_i32_1524 v1280
  v1281.toNat
def k0_dev36 (d0 : Dev nD) : Nat :=
  let c0_i32_1580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_1579 : BitVec 32 := 1#32
  let v1320 : BitVec 32 := Scalar.muli v134 c1_i32_1579
  let v1321 : BitVec 32 := Scalar.addi c0_i32_1580 v1320
  v1321.toNat
def k0_dev37 (d0 : Dev nD) : Nat :=
  let c0_i32_1636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_1635 : BitVec 32 := 1#32
  let v1360 : BitVec 32 := Scalar.muli v134 c1_i32_1635
  let v1361 : BitVec 32 := Scalar.addi c0_i32_1636 v1360
  v1361.toNat
def k0_dev38 (d0 : Dev nD) : Nat :=
  let c0_i32_1692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_1691 : BitVec 32 := 1#32
  let v1400 : BitVec 32 := Scalar.muli v134 c1_i32_1691
  let v1401 : BitVec 32 := Scalar.addi c0_i32_1692 v1400
  v1401.toNat
def k0_dev39 (d0 : Dev nD) : Nat :=
  let c0_i32_1749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_1748 : BitVec 32 := 1#32
  let v1441 : BitVec 32 := Scalar.muli v176 c1_i32_1748
  let v1442 : BitVec 32 := Scalar.addi c0_i32_1749 v1441
  v1442.toNat
def k0_dev40 (d0 : Dev nD) : Nat :=
  let c0_i32_1806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_1805 : BitVec 32 := 1#32
  let v1482 : BitVec 32 := Scalar.muli v176 c1_i32_1805
  let v1483 : BitVec 32 := Scalar.addi c0_i32_1806 v1482
  v1483.toNat
def k0_dev41 (d0 : Dev nD) : Nat :=
  let c0_i32_1863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_1862 : BitVec 32 := 1#32
  let v1523 : BitVec 32 := Scalar.muli v176 c1_i32_1862
  let v1524 : BitVec 32 := Scalar.addi c0_i32_1863 v1523
  v1524.toNat
def k0_dev42 (d0 : Dev nD) : Nat :=
  let c0_i32_1920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_1919 : BitVec 32 := 1#32
  let v1564 : BitVec 32 := Scalar.muli v176 c1_i32_1919
  let v1565 : BitVec 32 := Scalar.addi c0_i32_1920 v1564
  v1565.toNat
def k0_dev43 (d0 : Dev nD) : Nat :=
  let c0_i32_1975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_1974 : BitVec 32 := 1#32
  let v1604 : BitVec 32 := Scalar.muli v134 c1_i32_1974
  let v1605 : BitVec 32 := Scalar.addi c0_i32_1975 v1604
  v1605.toNat
def k0_dev44 (d0 : Dev nD) : Nat :=
  let c0_i32_2031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_2030 : BitVec 32 := 1#32
  let v1644 : BitVec 32 := Scalar.muli v134 c1_i32_2030
  let v1645 : BitVec 32 := Scalar.addi c0_i32_2031 v1644
  v1645.toNat
def k0_dev45 (d0 : Dev nD) : Nat :=
  let c0_i32_2087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_2086 : BitVec 32 := 1#32
  let v1684 : BitVec 32 := Scalar.muli v134 c1_i32_2086
  let v1685 : BitVec 32 := Scalar.addi c0_i32_2087 v1684
  v1685.toNat
def k0_dev46 (d0 : Dev nD) : Nat :=
  let c0_i32_2143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_2142 : BitVec 32 := 1#32
  let v1724 : BitVec 32 := Scalar.muli v134 c1_i32_2142
  let v1725 : BitVec 32 := Scalar.addi c0_i32_2143 v1724
  v1725.toNat
def k0_dev47 (d0 : Dev nD) : Nat :=
  let c0_i32_2200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_2199 : BitVec 32 := 1#32
  let v1765 : BitVec 32 := Scalar.muli v176 c1_i32_2199
  let v1766 : BitVec 32 := Scalar.addi c0_i32_2200 v1765
  v1766.toNat
def k0_dev48 (d0 : Dev nD) : Nat :=
  let c0_i32_2257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_2256 : BitVec 32 := 1#32
  let v1806 : BitVec 32 := Scalar.muli v176 c1_i32_2256
  let v1807 : BitVec 32 := Scalar.addi c0_i32_2257 v1806
  v1807.toNat
def k0_dev49 (d0 : Dev nD) : Nat :=
  let c0_i32_2314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_2313 : BitVec 32 := 1#32
  let v1847 : BitVec 32 := Scalar.muli v176 c1_i32_2313
  let v1848 : BitVec 32 := Scalar.addi c0_i32_2314 v1847
  v1848.toNat
def k0_dev50 (d0 : Dev nD) : Nat :=
  let c0_i32_2371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_2370 : BitVec 32 := 1#32
  let v1888 : BitVec 32 := Scalar.muli v176 c1_i32_2370
  let v1889 : BitVec 32 := Scalar.addi c0_i32_2371 v1888
  v1889.toNat
def k0_dev51 (d0 : Dev nD) : Nat :=
  let c0_i32_2426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_2425 : BitVec 32 := 1#32
  let v1928 : BitVec 32 := Scalar.muli v134 c1_i32_2425
  let v1929 : BitVec 32 := Scalar.addi c0_i32_2426 v1928
  v1929.toNat
def k0_dev52 (d0 : Dev nD) : Nat :=
  let c0_i32_2482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_2481 : BitVec 32 := 1#32
  let v1968 : BitVec 32 := Scalar.muli v134 c1_i32_2481
  let v1969 : BitVec 32 := Scalar.addi c0_i32_2482 v1968
  v1969.toNat
def k0_dev53 (d0 : Dev nD) : Nat :=
  let c0_i32_2538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_2537 : BitVec 32 := 1#32
  let v2008 : BitVec 32 := Scalar.muli v134 c1_i32_2537
  let v2009 : BitVec 32 := Scalar.addi c0_i32_2538 v2008
  v2009.toNat
def k0_dev54 (d0 : Dev nD) : Nat :=
  let c0_i32_2594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_2593 : BitVec 32 := 1#32
  let v2048 : BitVec 32 := Scalar.muli v134 c1_i32_2593
  let v2049 : BitVec 32 := Scalar.addi c0_i32_2594 v2048
  v2049.toNat
def k0_dev55 (d0 : Dev nD) : Nat :=
  let c0_i32_2651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_2650 : BitVec 32 := 1#32
  let v2089 : BitVec 32 := Scalar.muli v176 c1_i32_2650
  let v2090 : BitVec 32 := Scalar.addi c0_i32_2651 v2089
  v2090.toNat
def k0_dev56 (d0 : Dev nD) : Nat :=
  let c0_i32_2708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_2707 : BitVec 32 := 1#32
  let v2130 : BitVec 32 := Scalar.muli v176 c1_i32_2707
  let v2131 : BitVec 32 := Scalar.addi c0_i32_2708 v2130
  v2131.toNat
def k0_dev57 (d0 : Dev nD) : Nat :=
  let c0_i32_2765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_2764 : BitVec 32 := 1#32
  let v2171 : BitVec 32 := Scalar.muli v176 c1_i32_2764
  let v2172 : BitVec 32 := Scalar.addi c0_i32_2765 v2171
  v2172.toNat
def k0_dev58 (d0 : Dev nD) : Nat :=
  let c0_i32_2822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_2821 : BitVec 32 := 1#32
  let v2212 : BitVec 32 := Scalar.muli v176 c1_i32_2821
  let v2213 : BitVec 32 := Scalar.addi c0_i32_2822 v2212
  v2213.toNat
def k0_dev59 (d0 : Dev nD) : Nat :=
  let c0_i32_2877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_2876 : BitVec 32 := 1#32
  let v2252 : BitVec 32 := Scalar.muli v134 c1_i32_2876
  let v2253 : BitVec 32 := Scalar.addi c0_i32_2877 v2252
  v2253.toNat
def k0_dev60 (d0 : Dev nD) : Nat :=
  let c0_i32_2933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_2932 : BitVec 32 := 1#32
  let v2292 : BitVec 32 := Scalar.muli v134 c1_i32_2932
  let v2293 : BitVec 32 := Scalar.addi c0_i32_2933 v2292
  v2293.toNat
def k0_dev61 (d0 : Dev nD) : Nat :=
  let c0_i32_2989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_2988 : BitVec 32 := 1#32
  let v2332 : BitVec 32 := Scalar.muli v134 c1_i32_2988
  let v2333 : BitVec 32 := Scalar.addi c0_i32_2989 v2332
  v2333.toNat
def k0_dev62 (d0 : Dev nD) : Nat :=
  let c0_i32_3045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_3044 : BitVec 32 := 1#32
  let v2372 : BitVec 32 := Scalar.muli v134 c1_i32_3044
  let v2373 : BitVec 32 := Scalar.addi c0_i32_3045 v2372
  v2373.toNat
def k0_dev63 (d0 : Dev nD) : Nat :=
  let c0_i32_3102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_3101 : BitVec 32 := 1#32
  let v2413 : BitVec 32 := Scalar.muli v176 c1_i32_3101
  let v2414 : BitVec 32 := Scalar.addi c0_i32_3102 v2413
  v2414.toNat
def k0_dev64 (d0 : Dev nD) : Nat :=
  let c0_i32_3159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_3158 : BitVec 32 := 1#32
  let v2454 : BitVec 32 := Scalar.muli v176 c1_i32_3158
  let v2455 : BitVec 32 := Scalar.addi c0_i32_3159 v2454
  v2455.toNat
def k0_dev65 (d0 : Dev nD) : Nat :=
  let c0_i32_3216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_3215 : BitVec 32 := 1#32
  let v2495 : BitVec 32 := Scalar.muli v176 c1_i32_3215
  let v2496 : BitVec 32 := Scalar.addi c0_i32_3216 v2495
  v2496.toNat
def k0_dev66 (d0 : Dev nD) : Nat :=
  let c0_i32_3273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_3272 : BitVec 32 := 1#32
  let v2536 : BitVec 32 := Scalar.muli v176 c1_i32_3272
  let v2537 : BitVec 32 := Scalar.addi c0_i32_3273 v2536
  v2537.toNat
def k0_dev67 (d0 : Dev nD) : Nat :=
  let c0_i32_3328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_3327 : BitVec 32 := 1#32
  let v2576 : BitVec 32 := Scalar.muli v134 c1_i32_3327
  let v2577 : BitVec 32 := Scalar.addi c0_i32_3328 v2576
  v2577.toNat
def k0_dev68 (d0 : Dev nD) : Nat :=
  let c0_i32_3384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_3383 : BitVec 32 := 1#32
  let v2616 : BitVec 32 := Scalar.muli v134 c1_i32_3383
  let v2617 : BitVec 32 := Scalar.addi c0_i32_3384 v2616
  v2617.toNat
def k0_dev69 (d0 : Dev nD) : Nat :=
  let c0_i32_3440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_3439 : BitVec 32 := 1#32
  let v2656 : BitVec 32 := Scalar.muli v134 c1_i32_3439
  let v2657 : BitVec 32 := Scalar.addi c0_i32_3440 v2656
  v2657.toNat
def k0_dev70 (d0 : Dev nD) : Nat :=
  let c0_i32_3496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_3495 : BitVec 32 := 1#32
  let v2696 : BitVec 32 := Scalar.muli v134 c1_i32_3495
  let v2697 : BitVec 32 := Scalar.addi c0_i32_3496 v2696
  v2697.toNat
def k0_dev71 (d0 : Dev nD) : Nat :=
  let c0_i32_3553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_3552 : BitVec 32 := 1#32
  let v2737 : BitVec 32 := Scalar.muli v176 c1_i32_3552
  let v2738 : BitVec 32 := Scalar.addi c0_i32_3553 v2737
  v2738.toNat
def k0_dev72 (d0 : Dev nD) : Nat :=
  let c0_i32_3610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_3609 : BitVec 32 := 1#32
  let v2778 : BitVec 32 := Scalar.muli v176 c1_i32_3609
  let v2779 : BitVec 32 := Scalar.addi c0_i32_3610 v2778
  v2779.toNat
def k0_dev73 (d0 : Dev nD) : Nat :=
  let c0_i32_3667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_3666 : BitVec 32 := 1#32
  let v2819 : BitVec 32 := Scalar.muli v176 c1_i32_3666
  let v2820 : BitVec 32 := Scalar.addi c0_i32_3667 v2819
  v2820.toNat
def k0_dev74 (d0 : Dev nD) : Nat :=
  let c0_i32_3724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_3723 : BitVec 32 := 1#32
  let v2860 : BitVec 32 := Scalar.muli v176 c1_i32_3723
  let v2861 : BitVec 32 := Scalar.addi c0_i32_3724 v2860
  v2861.toNat
def k0_dev75 (d0 : Dev nD) : Nat :=
  let c0_i32_3777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_3776 : BitVec 32 := 1#32
  let v2900 : BitVec 32 := Scalar.muli v134 c1_i32_3776
  let v2901 : BitVec 32 := Scalar.addi c0_i32_3777 v2900
  v2901.toNat
def k0_dev76 (d0 : Dev nD) : Nat :=
  let c0_i32_3833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_3832 : BitVec 32 := 1#32
  let v2940 : BitVec 32 := Scalar.muli v134 c1_i32_3832
  let v2941 : BitVec 32 := Scalar.addi c0_i32_3833 v2940
  v2941.toNat
def k0_dev77 (d0 : Dev nD) : Nat :=
  let c0_i32_3889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_3888 : BitVec 32 := 1#32
  let v2980 : BitVec 32 := Scalar.muli v134 c1_i32_3888
  let v2981 : BitVec 32 := Scalar.addi c0_i32_3889 v2980
  v2981.toNat
def k0_dev78 (d0 : Dev nD) : Nat :=
  let c0_i32_3945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_3944 : BitVec 32 := 1#32
  let v3020 : BitVec 32 := Scalar.muli v134 c1_i32_3944
  let v3021 : BitVec 32 := Scalar.addi c0_i32_3945 v3020
  v3021.toNat
def k0_dev79 (d0 : Dev nD) : Nat :=
  let c0_i32_4002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_4001 : BitVec 32 := 1#32
  let v3061 : BitVec 32 := Scalar.muli v176 c1_i32_4001
  let v3062 : BitVec 32 := Scalar.addi c0_i32_4002 v3061
  v3062.toNat
def k0_dev80 (d0 : Dev nD) : Nat :=
  let c0_i32_4059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_4058 : BitVec 32 := 1#32
  let v3102 : BitVec 32 := Scalar.muli v176 c1_i32_4058
  let v3103 : BitVec 32 := Scalar.addi c0_i32_4059 v3102
  v3103.toNat
def k0_dev81 (d0 : Dev nD) : Nat :=
  let c0_i32_4116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_4115 : BitVec 32 := 1#32
  let v3143 : BitVec 32 := Scalar.muli v176 c1_i32_4115
  let v3144 : BitVec 32 := Scalar.addi c0_i32_4116 v3143
  v3144.toNat
def k0_dev82 (d0 : Dev nD) : Nat :=
  let c0_i32_4173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_4172 : BitVec 32 := 1#32
  let v3184 : BitVec 32 := Scalar.muli v176 c1_i32_4172
  let v3185 : BitVec 32 := Scalar.addi c0_i32_4173 v3184
  v3185.toNat
def k0_dev83 (d0 : Dev nD) : Nat :=
  let c0_i32_4226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_4225 : BitVec 32 := 1#32
  let v3224 : BitVec 32 := Scalar.muli v134 c1_i32_4225
  let v3225 : BitVec 32 := Scalar.addi c0_i32_4226 v3224
  v3225.toNat
def k0_dev84 (d0 : Dev nD) : Nat :=
  let c0_i32_4282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_4281 : BitVec 32 := 1#32
  let v3264 : BitVec 32 := Scalar.muli v134 c1_i32_4281
  let v3265 : BitVec 32 := Scalar.addi c0_i32_4282 v3264
  v3265.toNat
def k0_dev85 (d0 : Dev nD) : Nat :=
  let c0_i32_4338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_4337 : BitVec 32 := 1#32
  let v3304 : BitVec 32 := Scalar.muli v134 c1_i32_4337
  let v3305 : BitVec 32 := Scalar.addi c0_i32_4338 v3304
  v3305.toNat
def k0_dev86 (d0 : Dev nD) : Nat :=
  let c0_i32_4394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_4393 : BitVec 32 := 1#32
  let v3344 : BitVec 32 := Scalar.muli v134 c1_i32_4393
  let v3345 : BitVec 32 := Scalar.addi c0_i32_4394 v3344
  v3345.toNat
def k0_dev87 (d0 : Dev nD) : Nat :=
  let c0_i32_4451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_4450 : BitVec 32 := 1#32
  let v3385 : BitVec 32 := Scalar.muli v176 c1_i32_4450
  let v3386 : BitVec 32 := Scalar.addi c0_i32_4451 v3385
  v3386.toNat
def k0_dev88 (d0 : Dev nD) : Nat :=
  let c0_i32_4508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_4507 : BitVec 32 := 1#32
  let v3426 : BitVec 32 := Scalar.muli v176 c1_i32_4507
  let v3427 : BitVec 32 := Scalar.addi c0_i32_4508 v3426
  v3427.toNat
def k0_dev89 (d0 : Dev nD) : Nat :=
  let c0_i32_4565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_4564 : BitVec 32 := 1#32
  let v3467 : BitVec 32 := Scalar.muli v176 c1_i32_4564
  let v3468 : BitVec 32 := Scalar.addi c0_i32_4565 v3467
  v3468.toNat
def k0_dev90 (d0 : Dev nD) : Nat :=
  let c0_i32_4622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_4621 : BitVec 32 := 1#32
  let v3508 : BitVec 32 := Scalar.muli v176 c1_i32_4621
  let v3509 : BitVec 32 := Scalar.addi c0_i32_4622 v3508
  v3509.toNat
def k0_dev91 (d0 : Dev nD) : Nat :=
  let c0_i32_4675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_4674 : BitVec 32 := 1#32
  let v3548 : BitVec 32 := Scalar.muli v134 c1_i32_4674
  let v3549 : BitVec 32 := Scalar.addi c0_i32_4675 v3548
  v3549.toNat
def k0_dev92 (d0 : Dev nD) : Nat :=
  let c0_i32_4731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_4730 : BitVec 32 := 1#32
  let v3588 : BitVec 32 := Scalar.muli v134 c1_i32_4730
  let v3589 : BitVec 32 := Scalar.addi c0_i32_4731 v3588
  v3589.toNat
def k0_dev93 (d0 : Dev nD) : Nat :=
  let c0_i32_4787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_4786 : BitVec 32 := 1#32
  let v3628 : BitVec 32 := Scalar.muli v134 c1_i32_4786
  let v3629 : BitVec 32 := Scalar.addi c0_i32_4787 v3628
  v3629.toNat
def k0_dev94 (d0 : Dev nD) : Nat :=
  let c0_i32_4843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_4842 : BitVec 32 := 1#32
  let v3668 : BitVec 32 := Scalar.muli v134 c1_i32_4842
  let v3669 : BitVec 32 := Scalar.addi c0_i32_4843 v3668
  v3669.toNat
def k0_dev95 (d0 : Dev nD) : Nat :=
  let c0_i32_4900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_4899 : BitVec 32 := 1#32
  let v3709 : BitVec 32 := Scalar.muli v176 c1_i32_4899
  let v3710 : BitVec 32 := Scalar.addi c0_i32_4900 v3709
  v3710.toNat
def k0_dev96 (d0 : Dev nD) : Nat :=
  let c0_i32_4957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_4956 : BitVec 32 := 1#32
  let v3750 : BitVec 32 := Scalar.muli v176 c1_i32_4956
  let v3751 : BitVec 32 := Scalar.addi c0_i32_4957 v3750
  v3751.toNat
def k0_dev97 (d0 : Dev nD) : Nat :=
  let c0_i32_5014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_5013 : BitVec 32 := 1#32
  let v3791 : BitVec 32 := Scalar.muli v176 c1_i32_5013
  let v3792 : BitVec 32 := Scalar.addi c0_i32_5014 v3791
  v3792.toNat
def k0_dev98 (d0 : Dev nD) : Nat :=
  let c0_i32_5071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_5070 : BitVec 32 := 1#32
  let v3832 : BitVec 32 := Scalar.muli v176 c1_i32_5070
  let v3833 : BitVec 32 := Scalar.addi c0_i32_5071 v3832
  v3833.toNat
def k0_dev99 (d0 : Dev nD) : Nat :=
  let c0_i32_5125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_5124 : BitVec 32 := 1#32
  let v3872 : BitVec 32 := Scalar.muli v134 c1_i32_5124
  let v3873 : BitVec 32 := Scalar.addi c0_i32_5125 v3872
  v3873.toNat
def k0_dev100 (d0 : Dev nD) : Nat :=
  let c0_i32_5181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_5180 : BitVec 32 := 1#32
  let v3912 : BitVec 32 := Scalar.muli v134 c1_i32_5180
  let v3913 : BitVec 32 := Scalar.addi c0_i32_5181 v3912
  v3913.toNat
def k0_dev101 (d0 : Dev nD) : Nat :=
  let c0_i32_5237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_5236 : BitVec 32 := 1#32
  let v3952 : BitVec 32 := Scalar.muli v134 c1_i32_5236
  let v3953 : BitVec 32 := Scalar.addi c0_i32_5237 v3952
  v3953.toNat
def k0_dev102 (d0 : Dev nD) : Nat :=
  let c0_i32_5293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_5292 : BitVec 32 := 1#32
  let v3992 : BitVec 32 := Scalar.muli v134 c1_i32_5292
  let v3993 : BitVec 32 := Scalar.addi c0_i32_5293 v3992
  v3993.toNat
def k0_dev103 (d0 : Dev nD) : Nat :=
  let c0_i32_5350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_5349 : BitVec 32 := 1#32
  let v4033 : BitVec 32 := Scalar.muli v176 c1_i32_5349
  let v4034 : BitVec 32 := Scalar.addi c0_i32_5350 v4033
  v4034.toNat
def k0_dev104 (d0 : Dev nD) : Nat :=
  let c0_i32_5407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_5406 : BitVec 32 := 1#32
  let v4074 : BitVec 32 := Scalar.muli v176 c1_i32_5406
  let v4075 : BitVec 32 := Scalar.addi c0_i32_5407 v4074
  v4075.toNat
def k0_dev105 (d0 : Dev nD) : Nat :=
  let c0_i32_5464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_5463 : BitVec 32 := 1#32
  let v4115 : BitVec 32 := Scalar.muli v176 c1_i32_5463
  let v4116 : BitVec 32 := Scalar.addi c0_i32_5464 v4115
  v4116.toNat
def k0_dev106 (d0 : Dev nD) : Nat :=
  let c0_i32_5521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_5520 : BitVec 32 := 1#32
  let v4156 : BitVec 32 := Scalar.muli v176 c1_i32_5520
  let v4157 : BitVec 32 := Scalar.addi c0_i32_5521 v4156
  v4157.toNat
def k0_dev107 (d0 : Dev nD) : Nat :=
  let c0_i32_5575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_5574 : BitVec 32 := 1#32
  let v4196 : BitVec 32 := Scalar.muli v134 c1_i32_5574
  let v4197 : BitVec 32 := Scalar.addi c0_i32_5575 v4196
  v4197.toNat
def k0_dev108 (d0 : Dev nD) : Nat :=
  let c0_i32_5631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_5630 : BitVec 32 := 1#32
  let v4236 : BitVec 32 := Scalar.muli v134 c1_i32_5630
  let v4237 : BitVec 32 := Scalar.addi c0_i32_5631 v4236
  v4237.toNat
def k0_dev109 (d0 : Dev nD) : Nat :=
  let c0_i32_5687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_5686 : BitVec 32 := 1#32
  let v4276 : BitVec 32 := Scalar.muli v134 c1_i32_5686
  let v4277 : BitVec 32 := Scalar.addi c0_i32_5687 v4276
  v4277.toNat
def k0_dev110 (d0 : Dev nD) : Nat :=
  let c0_i32_5743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_5742 : BitVec 32 := 1#32
  let v4316 : BitVec 32 := Scalar.muli v134 c1_i32_5742
  let v4317 : BitVec 32 := Scalar.addi c0_i32_5743 v4316
  v4317.toNat
def k0_dev111 (d0 : Dev nD) : Nat :=
  let c0_i32_5800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_5799 : BitVec 32 := 1#32
  let v4357 : BitVec 32 := Scalar.muli v176 c1_i32_5799
  let v4358 : BitVec 32 := Scalar.addi c0_i32_5800 v4357
  v4358.toNat
def k0_dev112 (d0 : Dev nD) : Nat :=
  let c0_i32_5857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_5856 : BitVec 32 := 1#32
  let v4398 : BitVec 32 := Scalar.muli v176 c1_i32_5856
  let v4399 : BitVec 32 := Scalar.addi c0_i32_5857 v4398
  v4399.toNat
def k0_dev113 (d0 : Dev nD) : Nat :=
  let c0_i32_5914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_5913 : BitVec 32 := 1#32
  let v4439 : BitVec 32 := Scalar.muli v176 c1_i32_5913
  let v4440 : BitVec 32 := Scalar.addi c0_i32_5914 v4439
  v4440.toNat
def k0_dev114 (d0 : Dev nD) : Nat :=
  let c0_i32_5971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_5970 : BitVec 32 := 1#32
  let v4480 : BitVec 32 := Scalar.muli v176 c1_i32_5970
  let v4481 : BitVec 32 := Scalar.addi c0_i32_5971 v4480
  v4481.toNat
def k0_dev115 (d0 : Dev nD) : Nat :=
  let c0_i32_6024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_6023 : BitVec 32 := 1#32
  let v4520 : BitVec 32 := Scalar.muli v134 c1_i32_6023
  let v4521 : BitVec 32 := Scalar.addi c0_i32_6024 v4520
  v4521.toNat
def k0_dev116 (d0 : Dev nD) : Nat :=
  let c0_i32_6080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_6079 : BitVec 32 := 1#32
  let v4560 : BitVec 32 := Scalar.muli v134 c1_i32_6079
  let v4561 : BitVec 32 := Scalar.addi c0_i32_6080 v4560
  v4561.toNat
def k0_dev117 (d0 : Dev nD) : Nat :=
  let c0_i32_6136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_6135 : BitVec 32 := 1#32
  let v4600 : BitVec 32 := Scalar.muli v134 c1_i32_6135
  let v4601 : BitVec 32 := Scalar.addi c0_i32_6136 v4600
  v4601.toNat
def k0_dev118 (d0 : Dev nD) : Nat :=
  let c0_i32_6192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_6191 : BitVec 32 := 1#32
  let v4640 : BitVec 32 := Scalar.muli v134 c1_i32_6191
  let v4641 : BitVec 32 := Scalar.addi c0_i32_6192 v4640
  v4641.toNat
def k0_dev119 (d0 : Dev nD) : Nat :=
  let c0_i32_6249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_6248 : BitVec 32 := 1#32
  let v4681 : BitVec 32 := Scalar.muli v176 c1_i32_6248
  let v4682 : BitVec 32 := Scalar.addi c0_i32_6249 v4681
  v4682.toNat
def k0_dev120 (d0 : Dev nD) : Nat :=
  let c0_i32_6306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_6305 : BitVec 32 := 1#32
  let v4722 : BitVec 32 := Scalar.muli v176 c1_i32_6305
  let v4723 : BitVec 32 := Scalar.addi c0_i32_6306 v4722
  v4723.toNat
def k0_dev121 (d0 : Dev nD) : Nat :=
  let c0_i32_6363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_6362 : BitVec 32 := 1#32
  let v4763 : BitVec 32 := Scalar.muli v176 c1_i32_6362
  let v4764 : BitVec 32 := Scalar.addi c0_i32_6363 v4763
  v4764.toNat
def k0_dev122 (d0 : Dev nD) : Nat :=
  let c0_i32_6420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_6419 : BitVec 32 := 1#32
  let v4804 : BitVec 32 := Scalar.muli v176 c1_i32_6419
  let v4805 : BitVec 32 := Scalar.addi c0_i32_6420 v4804
  v4805.toNat
def k0_off4 (d0 : Dev nD) (c0_i32_6451 : BitVec 32) (c1_i32_6448 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let v4842 : BitVec 32 := Scalar.addi v92 c1_i32_6448
  let c16_i32_6449 : BitVec 32 := 16#32
  let v4843 : BitVec 32 := Scalar.remsi v4842 c16_i32_6449
  let c32_i32_6450 : BitVec 32 := 32#32
  let v4845 : BitVec 32 := Scalar.muli v4843 c32_i32_6450
  let v4846 : BitVec 32 := Scalar.addi c0_i32_6451 v4845
  let v4847 : Index := Scalar.indexCast v4846
  let c0_6452 : Index := 0#32
  ![v4847.toNat, 0]
def k0_off4_at (r : Fin 8) : BitVec 32 × BitVec 32 :=
  if r.val < 4 then
    if r.val < 2 then
      if r.val < 1 then
        (0#32, 1#32)
      else
        (512#32, 1#32)
    else
      if r.val < 3 then
        (1024#32, 1#32)
      else
        (1536#32, 1#32)
  else
    if r.val < 6 then
      if r.val < 5 then
        (2048#32, 15#32)
      else
        (2560#32, 15#32)
    else
      if r.val < 7 then
        (3072#32, 15#32)
      else
        (3584#32, 15#32)
def k0_dev123 (d0 : Dev nD) : Nat :=
  let c0_i32_6475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_6474 : BitVec 32 := 1#32
  let v4859 : BitVec 32 := Scalar.muli v134 c1_i32_6474
  let v4860 : BitVec 32 := Scalar.addi c0_i32_6475 v4859
  v4860.toNat
def k0_dev124 (d0 : Dev nD) : Nat :=
  let c0_i32_6531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_6530 : BitVec 32 := 1#32
  let v4912 : BitVec 32 := Scalar.muli v134 c1_i32_6530
  let v4913 : BitVec 32 := Scalar.addi c0_i32_6531 v4912
  v4913.toNat
def k0_dev125 (d0 : Dev nD) : Nat :=
  let c0_i32_6587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_6586 : BitVec 32 := 1#32
  let v4965 : BitVec 32 := Scalar.muli v134 c1_i32_6586
  let v4966 : BitVec 32 := Scalar.addi c0_i32_6587 v4965
  v4966.toNat
def k0_dev126 (d0 : Dev nD) : Nat :=
  let c0_i32_6643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_6642 : BitVec 32 := 1#32
  let v5018 : BitVec 32 := Scalar.muli v134 c1_i32_6642
  let v5019 : BitVec 32 := Scalar.addi c0_i32_6643 v5018
  v5019.toNat
def k0_dev127 (d0 : Dev nD) : Nat :=
  let c0_i32_6700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_6699 : BitVec 32 := 1#32
  let v5072 : BitVec 32 := Scalar.muli v176 c1_i32_6699
  let v5073 : BitVec 32 := Scalar.addi c0_i32_6700 v5072
  v5073.toNat
def k0_dev128 (d0 : Dev nD) : Nat :=
  let c0_i32_6757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_6756 : BitVec 32 := 1#32
  let v5126 : BitVec 32 := Scalar.muli v176 c1_i32_6756
  let v5127 : BitVec 32 := Scalar.addi c0_i32_6757 v5126
  v5127.toNat
def k0_dev129 (d0 : Dev nD) : Nat :=
  let c0_i32_6814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_6813 : BitVec 32 := 1#32
  let v5180 : BitVec 32 := Scalar.muli v176 c1_i32_6813
  let v5181 : BitVec 32 := Scalar.addi c0_i32_6814 v5180
  v5181.toNat
def k0_dev130 (d0 : Dev nD) : Nat :=
  let c0_i32_6871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_6870 : BitVec 32 := 1#32
  let v5234 : BitVec 32 := Scalar.muli v176 c1_i32_6870
  let v5235 : BitVec 32 := Scalar.addi c0_i32_6871 v5234
  v5235.toNat
def k0_dev131 (d0 : Dev nD) : Nat :=
  let c0_i32_6906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_6905 : BitVec 32 := 1#32
  let v5260 : BitVec 32 := Scalar.muli v134 c1_i32_6905
  let v5261 : BitVec 32 := Scalar.addi c0_i32_6906 v5260
  v5261.toNat
def k0_dev132 (d0 : Dev nD) : Nat :=
  let c0_i32_6941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_6940 : BitVec 32 := 1#32
  let v5286 : BitVec 32 := Scalar.muli v134 c1_i32_6940
  let v5287 : BitVec 32 := Scalar.addi c0_i32_6941 v5286
  v5287.toNat
def k0_dev133 (d0 : Dev nD) : Nat :=
  let c0_i32_6976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_6975 : BitVec 32 := 1#32
  let v5312 : BitVec 32 := Scalar.muli v134 c1_i32_6975
  let v5313 : BitVec 32 := Scalar.addi c0_i32_6976 v5312
  v5313.toNat
def k0_dev134 (d0 : Dev nD) : Nat :=
  let c0_i32_7011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7010 : BitVec 32 := 1#32
  let v5338 : BitVec 32 := Scalar.muli v134 c1_i32_7010
  let v5339 : BitVec 32 := Scalar.addi c0_i32_7011 v5338
  v5339.toNat
def k0_dev135 (d0 : Dev nD) : Nat :=
  let c0_i32_7046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7045 : BitVec 32 := 1#32
  let v5364 : BitVec 32 := Scalar.muli v176 c1_i32_7045
  let v5365 : BitVec 32 := Scalar.addi c0_i32_7046 v5364
  v5365.toNat
def k0_dev136 (d0 : Dev nD) : Nat :=
  let c0_i32_7081 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7080 : BitVec 32 := 1#32
  let v5390 : BitVec 32 := Scalar.muli v176 c1_i32_7080
  let v5391 : BitVec 32 := Scalar.addi c0_i32_7081 v5390
  v5391.toNat
def k0_dev137 (d0 : Dev nD) : Nat :=
  let c0_i32_7116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7115 : BitVec 32 := 1#32
  let v5416 : BitVec 32 := Scalar.muli v176 c1_i32_7115
  let v5417 : BitVec 32 := Scalar.addi c0_i32_7116 v5416
  v5417.toNat
def k0_dev138 (d0 : Dev nD) : Nat :=
  let c0_i32_7151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7150 : BitVec 32 := 1#32
  let v5442 : BitVec 32 := Scalar.muli v176 c1_i32_7150
  let v5443 : BitVec 32 := Scalar.addi c0_i32_7151 v5442
  v5443.toNat
def k0_dev139 (d0 : Dev nD) : Nat :=
  let c0_i32_7180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7179 : BitVec 32 := 1#32
  let v5466 : BitVec 32 := Scalar.muli v134 c1_i32_7179
  let v5467 : BitVec 32 := Scalar.addi c0_i32_7180 v5466
  v5467.toNat
def k0_dev140 (d0 : Dev nD) : Nat :=
  let c0_i32_7209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7208 : BitVec 32 := 1#32
  let v5490 : BitVec 32 := Scalar.muli v134 c1_i32_7208
  let v5491 : BitVec 32 := Scalar.addi c0_i32_7209 v5490
  v5491.toNat
def k0_dev141 (d0 : Dev nD) : Nat :=
  let c0_i32_7238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7237 : BitVec 32 := 1#32
  let v5514 : BitVec 32 := Scalar.muli v134 c1_i32_7237
  let v5515 : BitVec 32 := Scalar.addi c0_i32_7238 v5514
  v5515.toNat
def k0_dev142 (d0 : Dev nD) : Nat :=
  let c0_i32_7267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7266 : BitVec 32 := 1#32
  let v5538 : BitVec 32 := Scalar.muli v134 c1_i32_7266
  let v5539 : BitVec 32 := Scalar.addi c0_i32_7267 v5538
  v5539.toNat
def k0_dev143 (d0 : Dev nD) : Nat :=
  let c0_i32_7296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7295 : BitVec 32 := 1#32
  let v5562 : BitVec 32 := Scalar.muli v176 c1_i32_7295
  let v5563 : BitVec 32 := Scalar.addi c0_i32_7296 v5562
  v5563.toNat
def k0_dev144 (d0 : Dev nD) : Nat :=
  let c0_i32_7325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7324 : BitVec 32 := 1#32
  let v5586 : BitVec 32 := Scalar.muli v176 c1_i32_7324
  let v5587 : BitVec 32 := Scalar.addi c0_i32_7325 v5586
  v5587.toNat
def k0_dev145 (d0 : Dev nD) : Nat :=
  let c0_i32_7354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7353 : BitVec 32 := 1#32
  let v5610 : BitVec 32 := Scalar.muli v176 c1_i32_7353
  let v5611 : BitVec 32 := Scalar.addi c0_i32_7354 v5610
  v5611.toNat
def k0_dev146 (d0 : Dev nD) : Nat :=
  let c0_i32_7383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7382 : BitVec 32 := 1#32
  let v5634 : BitVec 32 := Scalar.muli v176 c1_i32_7382
  let v5635 : BitVec 32 := Scalar.addi c0_i32_7383 v5634
  v5635.toNat
def k0_dev147 (d0 : Dev nD) : Nat :=
  let c0_i32_7412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7411 : BitVec 32 := 1#32
  let v5658 : BitVec 32 := Scalar.muli v134 c1_i32_7411
  let v5659 : BitVec 32 := Scalar.addi c0_i32_7412 v5658
  v5659.toNat
def k0_dev148 (d0 : Dev nD) : Nat :=
  let c0_i32_7441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7440 : BitVec 32 := 1#32
  let v5682 : BitVec 32 := Scalar.muli v134 c1_i32_7440
  let v5683 : BitVec 32 := Scalar.addi c0_i32_7441 v5682
  v5683.toNat
def k0_dev149 (d0 : Dev nD) : Nat :=
  let c0_i32_7470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7469 : BitVec 32 := 1#32
  let v5706 : BitVec 32 := Scalar.muli v134 c1_i32_7469
  let v5707 : BitVec 32 := Scalar.addi c0_i32_7470 v5706
  v5707.toNat
def k0_dev150 (d0 : Dev nD) : Nat :=
  let c0_i32_7499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7498 : BitVec 32 := 1#32
  let v5730 : BitVec 32 := Scalar.muli v134 c1_i32_7498
  let v5731 : BitVec 32 := Scalar.addi c0_i32_7499 v5730
  v5731.toNat
def k0_dev151 (d0 : Dev nD) : Nat :=
  let c0_i32_7528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7527 : BitVec 32 := 1#32
  let v5754 : BitVec 32 := Scalar.muli v176 c1_i32_7527
  let v5755 : BitVec 32 := Scalar.addi c0_i32_7528 v5754
  v5755.toNat
def k0_dev152 (d0 : Dev nD) : Nat :=
  let c0_i32_7557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7556 : BitVec 32 := 1#32
  let v5778 : BitVec 32 := Scalar.muli v176 c1_i32_7556
  let v5779 : BitVec 32 := Scalar.addi c0_i32_7557 v5778
  v5779.toNat
def k0_dev153 (d0 : Dev nD) : Nat :=
  let c0_i32_7586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7585 : BitVec 32 := 1#32
  let v5802 : BitVec 32 := Scalar.muli v176 c1_i32_7585
  let v5803 : BitVec 32 := Scalar.addi c0_i32_7586 v5802
  v5803.toNat
def k0_dev154 (d0 : Dev nD) : Nat :=
  let c0_i32_7615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7614 : BitVec 32 := 1#32
  let v5826 : BitVec 32 := Scalar.muli v176 c1_i32_7614
  let v5827 : BitVec 32 := Scalar.addi c0_i32_7615 v5826
  v5827.toNat
def k0_dev155 (d0 : Dev nD) : Nat :=
  let c0_i32_7644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7643 : BitVec 32 := 1#32
  let v5850 : BitVec 32 := Scalar.muli v134 c1_i32_7643
  let v5851 : BitVec 32 := Scalar.addi c0_i32_7644 v5850
  v5851.toNat
def k0_dev156 (d0 : Dev nD) : Nat :=
  let c0_i32_7673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7672 : BitVec 32 := 1#32
  let v5874 : BitVec 32 := Scalar.muli v134 c1_i32_7672
  let v5875 : BitVec 32 := Scalar.addi c0_i32_7673 v5874
  v5875.toNat
def k0_dev157 (d0 : Dev nD) : Nat :=
  let c0_i32_7702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7701 : BitVec 32 := 1#32
  let v5898 : BitVec 32 := Scalar.muli v134 c1_i32_7701
  let v5899 : BitVec 32 := Scalar.addi c0_i32_7702 v5898
  v5899.toNat
def k0_dev158 (d0 : Dev nD) : Nat :=
  let c0_i32_7731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7730 : BitVec 32 := 1#32
  let v5922 : BitVec 32 := Scalar.muli v134 c1_i32_7730
  let v5923 : BitVec 32 := Scalar.addi c0_i32_7731 v5922
  v5923.toNat
def k0_dev159 (d0 : Dev nD) : Nat :=
  let c0_i32_7760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7759 : BitVec 32 := 1#32
  let v5946 : BitVec 32 := Scalar.muli v176 c1_i32_7759
  let v5947 : BitVec 32 := Scalar.addi c0_i32_7760 v5946
  v5947.toNat
def k0_dev160 (d0 : Dev nD) : Nat :=
  let c0_i32_7789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7788 : BitVec 32 := 1#32
  let v5970 : BitVec 32 := Scalar.muli v176 c1_i32_7788
  let v5971 : BitVec 32 := Scalar.addi c0_i32_7789 v5970
  v5971.toNat
def k0_dev161 (d0 : Dev nD) : Nat :=
  let c0_i32_7818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7817 : BitVec 32 := 1#32
  let v5994 : BitVec 32 := Scalar.muli v176 c1_i32_7817
  let v5995 : BitVec 32 := Scalar.addi c0_i32_7818 v5994
  v5995.toNat
def k0_dev162 (d0 : Dev nD) : Nat :=
  let c0_i32_7847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7846 : BitVec 32 := 1#32
  let v6018 : BitVec 32 := Scalar.muli v176 c1_i32_7846
  let v6019 : BitVec 32 := Scalar.addi c0_i32_7847 v6018
  v6019.toNat
def k0_dev163 (d0 : Dev nD) : Nat :=
  let c0_i32_7876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7875 : BitVec 32 := 1#32
  let v6042 : BitVec 32 := Scalar.muli v134 c1_i32_7875
  let v6043 : BitVec 32 := Scalar.addi c0_i32_7876 v6042
  v6043.toNat
def k0_dev164 (d0 : Dev nD) : Nat :=
  let c0_i32_7905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7904 : BitVec 32 := 1#32
  let v6066 : BitVec 32 := Scalar.muli v134 c1_i32_7904
  let v6067 : BitVec 32 := Scalar.addi c0_i32_7905 v6066
  v6067.toNat
def k0_dev165 (d0 : Dev nD) : Nat :=
  let c0_i32_7934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7933 : BitVec 32 := 1#32
  let v6090 : BitVec 32 := Scalar.muli v134 c1_i32_7933
  let v6091 : BitVec 32 := Scalar.addi c0_i32_7934 v6090
  v6091.toNat
def k0_dev166 (d0 : Dev nD) : Nat :=
  let c0_i32_7963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_7962 : BitVec 32 := 1#32
  let v6114 : BitVec 32 := Scalar.muli v134 c1_i32_7962
  let v6115 : BitVec 32 := Scalar.addi c0_i32_7963 v6114
  v6115.toNat
def k0_dev167 (d0 : Dev nD) : Nat :=
  let c0_i32_7992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_7991 : BitVec 32 := 1#32
  let v6138 : BitVec 32 := Scalar.muli v176 c1_i32_7991
  let v6139 : BitVec 32 := Scalar.addi c0_i32_7992 v6138
  v6139.toNat
def k0_dev168 (d0 : Dev nD) : Nat :=
  let c0_i32_8021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8020 : BitVec 32 := 1#32
  let v6162 : BitVec 32 := Scalar.muli v176 c1_i32_8020
  let v6163 : BitVec 32 := Scalar.addi c0_i32_8021 v6162
  v6163.toNat
def k0_dev169 (d0 : Dev nD) : Nat :=
  let c0_i32_8050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8049 : BitVec 32 := 1#32
  let v6186 : BitVec 32 := Scalar.muli v176 c1_i32_8049
  let v6187 : BitVec 32 := Scalar.addi c0_i32_8050 v6186
  v6187.toNat
def k0_dev170 (d0 : Dev nD) : Nat :=
  let c0_i32_8079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8078 : BitVec 32 := 1#32
  let v6210 : BitVec 32 := Scalar.muli v176 c1_i32_8078
  let v6211 : BitVec 32 := Scalar.addi c0_i32_8079 v6210
  v6211.toNat
def k0_dev171 (d0 : Dev nD) : Nat :=
  let c0_i32_8108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8107 : BitVec 32 := 1#32
  let v6234 : BitVec 32 := Scalar.muli v134 c1_i32_8107
  let v6235 : BitVec 32 := Scalar.addi c0_i32_8108 v6234
  v6235.toNat
def k0_dev172 (d0 : Dev nD) : Nat :=
  let c0_i32_8137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8136 : BitVec 32 := 1#32
  let v6258 : BitVec 32 := Scalar.muli v134 c1_i32_8136
  let v6259 : BitVec 32 := Scalar.addi c0_i32_8137 v6258
  v6259.toNat
def k0_dev173 (d0 : Dev nD) : Nat :=
  let c0_i32_8166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8165 : BitVec 32 := 1#32
  let v6282 : BitVec 32 := Scalar.muli v134 c1_i32_8165
  let v6283 : BitVec 32 := Scalar.addi c0_i32_8166 v6282
  v6283.toNat
def k0_dev174 (d0 : Dev nD) : Nat :=
  let c0_i32_8195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8194 : BitVec 32 := 1#32
  let v6306 : BitVec 32 := Scalar.muli v134 c1_i32_8194
  let v6307 : BitVec 32 := Scalar.addi c0_i32_8195 v6306
  v6307.toNat
def k0_dev175 (d0 : Dev nD) : Nat :=
  let c0_i32_8224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8223 : BitVec 32 := 1#32
  let v6330 : BitVec 32 := Scalar.muli v176 c1_i32_8223
  let v6331 : BitVec 32 := Scalar.addi c0_i32_8224 v6330
  v6331.toNat
def k0_dev176 (d0 : Dev nD) : Nat :=
  let c0_i32_8253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8252 : BitVec 32 := 1#32
  let v6354 : BitVec 32 := Scalar.muli v176 c1_i32_8252
  let v6355 : BitVec 32 := Scalar.addi c0_i32_8253 v6354
  v6355.toNat
def k0_dev177 (d0 : Dev nD) : Nat :=
  let c0_i32_8282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8281 : BitVec 32 := 1#32
  let v6378 : BitVec 32 := Scalar.muli v176 c1_i32_8281
  let v6379 : BitVec 32 := Scalar.addi c0_i32_8282 v6378
  v6379.toNat
def k0_dev178 (d0 : Dev nD) : Nat :=
  let c0_i32_8311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8310 : BitVec 32 := 1#32
  let v6402 : BitVec 32 := Scalar.muli v176 c1_i32_8310
  let v6403 : BitVec 32 := Scalar.addi c0_i32_8311 v6402
  v6403.toNat
def k0_dev179 (d0 : Dev nD) : Nat :=
  let c0_i32_8340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8339 : BitVec 32 := 1#32
  let v6426 : BitVec 32 := Scalar.muli v134 c1_i32_8339
  let v6427 : BitVec 32 := Scalar.addi c0_i32_8340 v6426
  v6427.toNat
def k0_dev180 (d0 : Dev nD) : Nat :=
  let c0_i32_8369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8368 : BitVec 32 := 1#32
  let v6450 : BitVec 32 := Scalar.muli v134 c1_i32_8368
  let v6451 : BitVec 32 := Scalar.addi c0_i32_8369 v6450
  v6451.toNat
def k0_dev181 (d0 : Dev nD) : Nat :=
  let c0_i32_8398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8397 : BitVec 32 := 1#32
  let v6474 : BitVec 32 := Scalar.muli v134 c1_i32_8397
  let v6475 : BitVec 32 := Scalar.addi c0_i32_8398 v6474
  v6475.toNat
def k0_dev182 (d0 : Dev nD) : Nat :=
  let c0_i32_8427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8426 : BitVec 32 := 1#32
  let v6498 : BitVec 32 := Scalar.muli v134 c1_i32_8426
  let v6499 : BitVec 32 := Scalar.addi c0_i32_8427 v6498
  v6499.toNat
def k0_dev183 (d0 : Dev nD) : Nat :=
  let c0_i32_8456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8455 : BitVec 32 := 1#32
  let v6522 : BitVec 32 := Scalar.muli v176 c1_i32_8455
  let v6523 : BitVec 32 := Scalar.addi c0_i32_8456 v6522
  v6523.toNat
def k0_dev184 (d0 : Dev nD) : Nat :=
  let c0_i32_8485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8484 : BitVec 32 := 1#32
  let v6546 : BitVec 32 := Scalar.muli v176 c1_i32_8484
  let v6547 : BitVec 32 := Scalar.addi c0_i32_8485 v6546
  v6547.toNat
def k0_dev185 (d0 : Dev nD) : Nat :=
  let c0_i32_8514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8513 : BitVec 32 := 1#32
  let v6570 : BitVec 32 := Scalar.muli v176 c1_i32_8513
  let v6571 : BitVec 32 := Scalar.addi c0_i32_8514 v6570
  v6571.toNat
def k0_dev186 (d0 : Dev nD) : Nat :=
  let c0_i32_8543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8542 : BitVec 32 := 1#32
  let v6594 : BitVec 32 := Scalar.muli v176 c1_i32_8542
  let v6595 : BitVec 32 := Scalar.addi c0_i32_8543 v6594
  v6595.toNat
def k0_dev187 (d0 : Dev nD) : Nat :=
  let c0_i32_8572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8571 : BitVec 32 := 1#32
  let v6618 : BitVec 32 := Scalar.muli v134 c1_i32_8571
  let v6619 : BitVec 32 := Scalar.addi c0_i32_8572 v6618
  v6619.toNat
def k0_dev188 (d0 : Dev nD) : Nat :=
  let c0_i32_8601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8600 : BitVec 32 := 1#32
  let v6642 : BitVec 32 := Scalar.muli v134 c1_i32_8600
  let v6643 : BitVec 32 := Scalar.addi c0_i32_8601 v6642
  v6643.toNat
def k0_dev189 (d0 : Dev nD) : Nat :=
  let c0_i32_8630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8629 : BitVec 32 := 1#32
  let v6666 : BitVec 32 := Scalar.muli v134 c1_i32_8629
  let v6667 : BitVec 32 := Scalar.addi c0_i32_8630 v6666
  v6667.toNat
def k0_dev190 (d0 : Dev nD) : Nat :=
  let c0_i32_8659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8658 : BitVec 32 := 1#32
  let v6690 : BitVec 32 := Scalar.muli v134 c1_i32_8658
  let v6691 : BitVec 32 := Scalar.addi c0_i32_8659 v6690
  v6691.toNat
def k0_dev191 (d0 : Dev nD) : Nat :=
  let c0_i32_8688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8687 : BitVec 32 := 1#32
  let v6714 : BitVec 32 := Scalar.muli v176 c1_i32_8687
  let v6715 : BitVec 32 := Scalar.addi c0_i32_8688 v6714
  v6715.toNat
def k0_dev192 (d0 : Dev nD) : Nat :=
  let c0_i32_8717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8716 : BitVec 32 := 1#32
  let v6738 : BitVec 32 := Scalar.muli v176 c1_i32_8716
  let v6739 : BitVec 32 := Scalar.addi c0_i32_8717 v6738
  v6739.toNat
def k0_dev193 (d0 : Dev nD) : Nat :=
  let c0_i32_8746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8745 : BitVec 32 := 1#32
  let v6762 : BitVec 32 := Scalar.muli v176 c1_i32_8745
  let v6763 : BitVec 32 := Scalar.addi c0_i32_8746 v6762
  v6763.toNat
def k0_dev194 (d0 : Dev nD) : Nat :=
  let c0_i32_8775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8774 : BitVec 32 := 1#32
  let v6786 : BitVec 32 := Scalar.muli v176 c1_i32_8774
  let v6787 : BitVec 32 := Scalar.addi c0_i32_8775 v6786
  v6787.toNat
def k0_dev195 (d0 : Dev nD) : Nat :=
  let c0_i32_8804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8803 : BitVec 32 := 1#32
  let v6810 : BitVec 32 := Scalar.muli v134 c1_i32_8803
  let v6811 : BitVec 32 := Scalar.addi c0_i32_8804 v6810
  v6811.toNat
def k0_dev196 (d0 : Dev nD) : Nat :=
  let c0_i32_8833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8832 : BitVec 32 := 1#32
  let v6834 : BitVec 32 := Scalar.muli v134 c1_i32_8832
  let v6835 : BitVec 32 := Scalar.addi c0_i32_8833 v6834
  v6835.toNat
def k0_dev197 (d0 : Dev nD) : Nat :=
  let c0_i32_8862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8861 : BitVec 32 := 1#32
  let v6858 : BitVec 32 := Scalar.muli v134 c1_i32_8861
  let v6859 : BitVec 32 := Scalar.addi c0_i32_8862 v6858
  v6859.toNat

variable {F : FTy → Type} [FloatOps F]

def k0_dev198 (d0 : Dev nD) : Nat :=
  let c0_i32_8891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_8890 : BitVec 32 := 1#32
  let v6882 : BitVec 32 := Scalar.muli v134 c1_i32_8890
  let v6883 : BitVec 32 := Scalar.addi c0_i32_8891 v6882
  v6883.toNat
def k0_dev199 (d0 : Dev nD) : Nat :=
  let c0_i32_8920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8919 : BitVec 32 := 1#32
  let v6906 : BitVec 32 := Scalar.muli v176 c1_i32_8919
  let v6907 : BitVec 32 := Scalar.addi c0_i32_8920 v6906
  v6907.toNat
def k0_dev200 (d0 : Dev nD) : Nat :=
  let c0_i32_8949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8948 : BitVec 32 := 1#32
  let v6930 : BitVec 32 := Scalar.muli v176 c1_i32_8948
  let v6931 : BitVec 32 := Scalar.addi c0_i32_8949 v6930
  v6931.toNat
def k0_dev201 (d0 : Dev nD) : Nat :=
  let c0_i32_8978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_8977 : BitVec 32 := 1#32
  let v6954 : BitVec 32 := Scalar.muli v176 c1_i32_8977
  let v6955 : BitVec 32 := Scalar.addi c0_i32_8978 v6954
  v6955.toNat
def k0_dev202 (d0 : Dev nD) : Nat :=
  let c0_i32_9007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9006 : BitVec 32 := 1#32
  let v6978 : BitVec 32 := Scalar.muli v176 c1_i32_9006
  let v6979 : BitVec 32 := Scalar.addi c0_i32_9007 v6978
  v6979.toNat
def k0_dev203 (d0 : Dev nD) : Nat :=
  let c0_i32_9036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9035 : BitVec 32 := 1#32
  let v7002 : BitVec 32 := Scalar.muli v134 c1_i32_9035
  let v7003 : BitVec 32 := Scalar.addi c0_i32_9036 v7002
  v7003.toNat
def k0_dev204 (d0 : Dev nD) : Nat :=
  let c0_i32_9065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9064 : BitVec 32 := 1#32
  let v7026 : BitVec 32 := Scalar.muli v134 c1_i32_9064
  let v7027 : BitVec 32 := Scalar.addi c0_i32_9065 v7026
  v7027.toNat
def k0_dev205 (d0 : Dev nD) : Nat :=
  let c0_i32_9094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9093 : BitVec 32 := 1#32
  let v7050 : BitVec 32 := Scalar.muli v134 c1_i32_9093
  let v7051 : BitVec 32 := Scalar.addi c0_i32_9094 v7050
  v7051.toNat
def k0_dev206 (d0 : Dev nD) : Nat :=
  let c0_i32_9123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9122 : BitVec 32 := 1#32
  let v7074 : BitVec 32 := Scalar.muli v134 c1_i32_9122
  let v7075 : BitVec 32 := Scalar.addi c0_i32_9123 v7074
  v7075.toNat
def k0_dev207 (d0 : Dev nD) : Nat :=
  let c0_i32_9152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9151 : BitVec 32 := 1#32
  let v7098 : BitVec 32 := Scalar.muli v176 c1_i32_9151
  let v7099 : BitVec 32 := Scalar.addi c0_i32_9152 v7098
  v7099.toNat
def k0_dev208 (d0 : Dev nD) : Nat :=
  let c0_i32_9181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9180 : BitVec 32 := 1#32
  let v7122 : BitVec 32 := Scalar.muli v176 c1_i32_9180
  let v7123 : BitVec 32 := Scalar.addi c0_i32_9181 v7122
  v7123.toNat
def k0_dev209 (d0 : Dev nD) : Nat :=
  let c0_i32_9210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9209 : BitVec 32 := 1#32
  let v7146 : BitVec 32 := Scalar.muli v176 c1_i32_9209
  let v7147 : BitVec 32 := Scalar.addi c0_i32_9210 v7146
  v7147.toNat
def k0_dev210 (d0 : Dev nD) : Nat :=
  let c0_i32_9239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9238 : BitVec 32 := 1#32
  let v7170 : BitVec 32 := Scalar.muli v176 c1_i32_9238
  let v7171 : BitVec 32 := Scalar.addi c0_i32_9239 v7170
  v7171.toNat
def k0_dev211 (d0 : Dev nD) : Nat :=
  let c0_i32_9268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9267 : BitVec 32 := 1#32
  let v7194 : BitVec 32 := Scalar.muli v134 c1_i32_9267
  let v7195 : BitVec 32 := Scalar.addi c0_i32_9268 v7194
  v7195.toNat
def k0_dev212 (d0 : Dev nD) : Nat :=
  let c0_i32_9297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9296 : BitVec 32 := 1#32
  let v7218 : BitVec 32 := Scalar.muli v134 c1_i32_9296
  let v7219 : BitVec 32 := Scalar.addi c0_i32_9297 v7218
  v7219.toNat
def k0_dev213 (d0 : Dev nD) : Nat :=
  let c0_i32_9326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9325 : BitVec 32 := 1#32
  let v7242 : BitVec 32 := Scalar.muli v134 c1_i32_9325
  let v7243 : BitVec 32 := Scalar.addi c0_i32_9326 v7242
  v7243.toNat
def k0_dev214 (d0 : Dev nD) : Nat :=
  let c0_i32_9355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9354 : BitVec 32 := 1#32
  let v7266 : BitVec 32 := Scalar.muli v134 c1_i32_9354
  let v7267 : BitVec 32 := Scalar.addi c0_i32_9355 v7266
  v7267.toNat
def k0_dev215 (d0 : Dev nD) : Nat :=
  let c0_i32_9384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9383 : BitVec 32 := 1#32
  let v7290 : BitVec 32 := Scalar.muli v176 c1_i32_9383
  let v7291 : BitVec 32 := Scalar.addi c0_i32_9384 v7290
  v7291.toNat
def k0_dev216 (d0 : Dev nD) : Nat :=
  let c0_i32_9413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9412 : BitVec 32 := 1#32
  let v7314 : BitVec 32 := Scalar.muli v176 c1_i32_9412
  let v7315 : BitVec 32 := Scalar.addi c0_i32_9413 v7314
  v7315.toNat
def k0_dev217 (d0 : Dev nD) : Nat :=
  let c0_i32_9442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9441 : BitVec 32 := 1#32
  let v7338 : BitVec 32 := Scalar.muli v176 c1_i32_9441
  let v7339 : BitVec 32 := Scalar.addi c0_i32_9442 v7338
  v7339.toNat
def k0_dev218 (d0 : Dev nD) : Nat :=
  let c0_i32_9471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9470 : BitVec 32 := 1#32
  let v7362 : BitVec 32 := Scalar.muli v176 c1_i32_9470
  let v7363 : BitVec 32 := Scalar.addi c0_i32_9471 v7362
  v7363.toNat
def k0_dev219 (d0 : Dev nD) : Nat :=
  let c0_i32_9500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9499 : BitVec 32 := 1#32
  let v7386 : BitVec 32 := Scalar.muli v134 c1_i32_9499
  let v7387 : BitVec 32 := Scalar.addi c0_i32_9500 v7386
  v7387.toNat
def k0_dev220 (d0 : Dev nD) : Nat :=
  let c0_i32_9529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9528 : BitVec 32 := 1#32
  let v7410 : BitVec 32 := Scalar.muli v134 c1_i32_9528
  let v7411 : BitVec 32 := Scalar.addi c0_i32_9529 v7410
  v7411.toNat
def k0_dev221 (d0 : Dev nD) : Nat :=
  let c0_i32_9558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9557 : BitVec 32 := 1#32
  let v7434 : BitVec 32 := Scalar.muli v134 c1_i32_9557
  let v7435 : BitVec 32 := Scalar.addi c0_i32_9558 v7434
  v7435.toNat
def k0_dev222 (d0 : Dev nD) : Nat :=
  let c0_i32_9587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9586 : BitVec 32 := 1#32
  let v7458 : BitVec 32 := Scalar.muli v134 c1_i32_9586
  let v7459 : BitVec 32 := Scalar.addi c0_i32_9587 v7458
  v7459.toNat
def k0_dev223 (d0 : Dev nD) : Nat :=
  let c0_i32_9616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9615 : BitVec 32 := 1#32
  let v7482 : BitVec 32 := Scalar.muli v176 c1_i32_9615
  let v7483 : BitVec 32 := Scalar.addi c0_i32_9616 v7482
  v7483.toNat
def k0_dev224 (d0 : Dev nD) : Nat :=
  let c0_i32_9645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9644 : BitVec 32 := 1#32
  let v7506 : BitVec 32 := Scalar.muli v176 c1_i32_9644
  let v7507 : BitVec 32 := Scalar.addi c0_i32_9645 v7506
  v7507.toNat
def k0_dev225 (d0 : Dev nD) : Nat :=
  let c0_i32_9674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9673 : BitVec 32 := 1#32
  let v7530 : BitVec 32 := Scalar.muli v176 c1_i32_9673
  let v7531 : BitVec 32 := Scalar.addi c0_i32_9674 v7530
  v7531.toNat
def k0_dev226 (d0 : Dev nD) : Nat :=
  let c0_i32_9703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9702 : BitVec 32 := 1#32
  let v7554 : BitVec 32 := Scalar.muli v176 c1_i32_9702
  let v7555 : BitVec 32 := Scalar.addi c0_i32_9703 v7554
  v7555.toNat
def k0_dev227 (d0 : Dev nD) : Nat :=
  let c0_i32_9732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9731 : BitVec 32 := 1#32
  let v7578 : BitVec 32 := Scalar.muli v134 c1_i32_9731
  let v7579 : BitVec 32 := Scalar.addi c0_i32_9732 v7578
  v7579.toNat
def k0_dev228 (d0 : Dev nD) : Nat :=
  let c0_i32_9761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9760 : BitVec 32 := 1#32
  let v7602 : BitVec 32 := Scalar.muli v134 c1_i32_9760
  let v7603 : BitVec 32 := Scalar.addi c0_i32_9761 v7602
  v7603.toNat
def k0_dev229 (d0 : Dev nD) : Nat :=
  let c0_i32_9790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9789 : BitVec 32 := 1#32
  let v7626 : BitVec 32 := Scalar.muli v134 c1_i32_9789
  let v7627 : BitVec 32 := Scalar.addi c0_i32_9790 v7626
  v7627.toNat
def k0_dev230 (d0 : Dev nD) : Nat :=
  let c0_i32_9819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9818 : BitVec 32 := 1#32
  let v7650 : BitVec 32 := Scalar.muli v134 c1_i32_9818
  let v7651 : BitVec 32 := Scalar.addi c0_i32_9819 v7650
  v7651.toNat
def k0_dev231 (d0 : Dev nD) : Nat :=
  let c0_i32_9848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9847 : BitVec 32 := 1#32
  let v7674 : BitVec 32 := Scalar.muli v176 c1_i32_9847
  let v7675 : BitVec 32 := Scalar.addi c0_i32_9848 v7674
  v7675.toNat
def k0_dev232 (d0 : Dev nD) : Nat :=
  let c0_i32_9877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9876 : BitVec 32 := 1#32
  let v7698 : BitVec 32 := Scalar.muli v176 c1_i32_9876
  let v7699 : BitVec 32 := Scalar.addi c0_i32_9877 v7698
  v7699.toNat
def k0_dev233 (d0 : Dev nD) : Nat :=
  let c0_i32_9906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9905 : BitVec 32 := 1#32
  let v7722 : BitVec 32 := Scalar.muli v176 c1_i32_9905
  let v7723 : BitVec 32 := Scalar.addi c0_i32_9906 v7722
  v7723.toNat
def k0_dev234 (d0 : Dev nD) : Nat :=
  let c0_i32_9935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_9934 : BitVec 32 := 1#32
  let v7746 : BitVec 32 := Scalar.muli v176 c1_i32_9934
  let v7747 : BitVec 32 := Scalar.addi c0_i32_9935 v7746
  v7747.toNat
def k0_dev235 (d0 : Dev nD) : Nat :=
  let c0_i32_9964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9963 : BitVec 32 := 1#32
  let v7770 : BitVec 32 := Scalar.muli v134 c1_i32_9963
  let v7771 : BitVec 32 := Scalar.addi c0_i32_9964 v7770
  v7771.toNat
def k0_dev236 (d0 : Dev nD) : Nat :=
  let c0_i32_9993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_9992 : BitVec 32 := 1#32
  let v7794 : BitVec 32 := Scalar.muli v134 c1_i32_9992
  let v7795 : BitVec 32 := Scalar.addi c0_i32_9993 v7794
  v7795.toNat
def k0_dev237 (d0 : Dev nD) : Nat :=
  let c0_i32_10022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_10021 : BitVec 32 := 1#32
  let v7818 : BitVec 32 := Scalar.muli v134 c1_i32_10021
  let v7819 : BitVec 32 := Scalar.addi c0_i32_10022 v7818
  v7819.toNat
def k0_dev238 (d0 : Dev nD) : Nat :=
  let c0_i32_10051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c1_i32_35 : BitVec 32 := 1#32
  let v93 : BitVec 32 := Scalar.addi v92 c1_i32_35
  let c16_i32_36 : BitVec 32 := 16#32
  let v94 : BitVec 32 := Scalar.remsi v93 c16_i32_36
  let c0_i32_38 : BitVec 32 := 0#32
  let v96 : BitVec 1 := Scalar.cmpi .sgt v94 c0_i32_38
  let v97 : BitVec 32 := Scalar.extui v96
  let c0_i32_39 : BitVec 32 := 0#32
  let v98 : BitVec 1 := Scalar.cmpi .slt v94 c0_i32_39
  let v99 : BitVec 32 := Scalar.extui v98
  let v100 : BitVec 32 := Scalar.subi v97 v99
  let c4_i32_37 : BitVec 32 := 4#32
  let c0_i32_40 : BitVec 32 := 0#32
  let v101 : BitVec 1 := Scalar.cmpi .sgt c4_i32_37 c0_i32_40
  let v102 : BitVec 32 := Scalar.extui v101
  let c0_i32_41 : BitVec 32 := 0#32
  let v103 : BitVec 1 := Scalar.cmpi .slt c4_i32_37 c0_i32_41
  let v104 : BitVec 32 := Scalar.extui v103
  let v105 : BitVec 32 := Scalar.subi v102 v104
  let v106 : BitVec 1 := Scalar.cmpi .ne v100 v105
  let v107 : BitVec 32 := Scalar.remsi v94 c4_i32_37
  let c0_i32_42 : BitVec 32 := 0#32
  let v108 : BitVec 1 := Scalar.cmpi .ne v107 c0_i32_42
  let v109 : BitVec 1 := Scalar.andi v106 v108
  let v95 : BitVec 32 := Scalar.divsi v94 c4_i32_37
  let c1_i32_43 : BitVec 32 := 1#32
  let v110 : BitVec 32 := Scalar.subi v95 c1_i32_43
  let v111 : BitVec 32 := Scalar.select v109 v110 v95
  let c0_i32_50 : BitVec 32 := 0#32
  let v122 : BitVec 1 := Scalar.cmpi .eq v111 c0_i32_50
  let c4_i32_51 : BitVec 32 := 4#32
  let c4_i32_44 : BitVec 32 := 4#32
  let c0_i32_45 : BitVec 32 := 0#32
  let v112 : BitVec 1 := Scalar.cmpi .eq c4_i32_44 c0_i32_45
  let c1_i32_46 : BitVec 32 := 1#32
  let v113 : BitVec 32 := Scalar.select v112 c1_i32_46 c4_i32_44
  let v114 : BitVec 32 := Scalar.remsi v94 v113
  let c0_i32_48 : BitVec 32 := 0#32
  let v116 : BitVec 1 := Scalar.cmpi .slt v114 c0_i32_48
  let c0_i32_49 : BitVec 32 := 0#32
  let v117 : BitVec 1 := Scalar.cmpi .slt v113 c0_i32_49
  let v118 : BitVec 1 := Scalar.xori v116 v117
  let c0_i32_47 : BitVec 32 := 0#32
  let v115 : BitVec 1 := Scalar.cmpi .ne v114 c0_i32_47
  let v119 : BitVec 1 := Scalar.andi v118 v115
  let v120 : BitVec 32 := Scalar.addi v114 v113
  let v121 : BitVec 32 := Scalar.select v119 v120 v114
  let v123 : BitVec 32 := Scalar.muli c4_i32_51 v121
  let c1_i32_52 : BitVec 32 := 1#32
  let v124 : BitVec 1 := Scalar.cmpi .eq v111 c1_i32_52
  let c15_i32_54 : BitVec 32 := 15#32
  let c4_i32_53 : BitVec 32 := 4#32
  let v125 : BitVec 32 := Scalar.muli c4_i32_53 v121
  let v126 : BitVec 32 := Scalar.subi c15_i32_54 v125
  let c2_i32_55 : BitVec 32 := 2#32
  let v127 : BitVec 1 := Scalar.cmpi .eq v111 c2_i32_55
  let c2_i32_57 : BitVec 32 := 2#32
  let c4_i32_56 : BitVec 32 := 4#32
  let v128 : BitVec 32 := Scalar.muli c4_i32_56 v121
  let v129 : BitVec 32 := Scalar.addi c2_i32_57 v128
  let c13_i32_59 : BitVec 32 := 13#32
  let c4_i32_58 : BitVec 32 := 4#32
  let v130 : BitVec 32 := Scalar.muli c4_i32_58 v121
  let v131 : BitVec 32 := Scalar.subi c13_i32_59 v130
  let v132 : BitVec 32 := Scalar.select v127 v129 v131
  let v133 : BitVec 32 := Scalar.select v124 v126 v132
  let v134 : BitVec 32 := Scalar.select v122 v123 v133
  let c1_i32_10050 : BitVec 32 := 1#32
  let v7842 : BitVec 32 := Scalar.muli v134 c1_i32_10050
  let v7843 : BitVec 32 := Scalar.addi c0_i32_10051 v7842
  v7843.toNat
def k0_dev239 (d0 : Dev nD) : Nat :=
  let c0_i32_10080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_10079 : BitVec 32 := 1#32
  let v7866 : BitVec 32 := Scalar.muli v176 c1_i32_10079
  let v7867 : BitVec 32 := Scalar.addi c0_i32_10080 v7866
  v7867.toNat
def k0_dev240 (d0 : Dev nD) : Nat :=
  let c0_i32_10109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_10108 : BitVec 32 := 1#32
  let v7890 : BitVec 32 := Scalar.muli v176 c1_i32_10108
  let v7891 : BitVec 32 := Scalar.addi c0_i32_10109 v7890
  v7891.toNat
def k0_dev241 (d0 : Dev nD) : Nat :=
  let c0_i32_10138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_10137 : BitVec 32 := 1#32
  let v7914 : BitVec 32 := Scalar.muli v176 c1_i32_10137
  let v7915 : BitVec 32 := Scalar.addi c0_i32_10138 v7914
  v7915.toNat
def k0_dev242 (d0 : Dev nD) : Nat :=
  let c0_i32_10167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c4_i32_5 : BitVec 32 := 4#32
  let c0_i32_8 : BitVec 32 := 0#32
  let v20 : BitVec 1 := Scalar.cmpi .sgt c4_i32_5 c0_i32_8
  let v21 : BitVec 32 := Scalar.extui v20
  let c0_i32_9 : BitVec 32 := 0#32
  let v22 : BitVec 1 := Scalar.cmpi .slt c4_i32_5 c0_i32_9
  let v23 : BitVec 32 := Scalar.extui v22
  let v24 : BitVec 32 := Scalar.subi v21 v23
  let v25 : BitVec 1 := Scalar.cmpi .ne v19 v24
  let v26 : BitVec 32 := Scalar.remsi v2 c4_i32_5
  let c0_i32_10 : BitVec 32 := 0#32
  let v27 : BitVec 1 := Scalar.cmpi .ne v26 c0_i32_10
  let v28 : BitVec 1 := Scalar.andi v25 v27
  let v14 : BitVec 32 := Scalar.divsi v2 c4_i32_5
  let c1_i32_11 : BitVec 32 := 1#32
  let v29 : BitVec 32 := Scalar.subi v14 c1_i32_11
  let v30 : BitVec 32 := Scalar.select v28 v29 v14
  let c3_i32 : BitVec 32 := 3#32
  let v31 : BitVec 1 := Scalar.cmpi .eq v12 c3_i32
  let c4_i32_19 : BitVec 32 := 4#32
  let c15_i32 : BitVec 32 := 15#32
  let v32 : BitVec 32 := Scalar.subi c15_i32 v2
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c4_i32_12 : BitVec 32 := 4#32
  let c0_i32_15 : BitVec 32 := 0#32
  let v39 : BitVec 1 := Scalar.cmpi .sgt c4_i32_12 c0_i32_15
  let v40 : BitVec 32 := Scalar.extui v39
  let c0_i32_16 : BitVec 32 := 0#32
  let v41 : BitVec 1 := Scalar.cmpi .slt c4_i32_12 c0_i32_16
  let v42 : BitVec 32 := Scalar.extui v41
  let v43 : BitVec 32 := Scalar.subi v40 v42
  let v44 : BitVec 1 := Scalar.cmpi .ne v38 v43
  let v45 : BitVec 32 := Scalar.remsi v32 c4_i32_12
  let c0_i32_17 : BitVec 32 := 0#32
  let v46 : BitVec 1 := Scalar.cmpi .ne v45 c0_i32_17
  let v47 : BitVec 1 := Scalar.andi v44 v46
  let v33 : BitVec 32 := Scalar.divsi v32 c4_i32_12
  let c1_i32_18 : BitVec 32 := 1#32
  let v48 : BitVec 32 := Scalar.subi v33 c1_i32_18
  let v49 : BitVec 32 := Scalar.select v47 v48 v33
  let v50 : BitVec 32 := Scalar.addi c4_i32_19 v49
  let c2_i32 : BitVec 32 := 2#32
  let v51 : BitVec 1 := Scalar.cmpi .eq v12 c2_i32
  let c8_i32 : BitVec 32 := 8#32
  let c2_i32_20 : BitVec 32 := 2#32
  let v52 : BitVec 32 := Scalar.subi v2 c2_i32_20
  let c0_i32_22 : BitVec 32 := 0#32
  let v54 : BitVec 1 := Scalar.cmpi .sgt v52 c0_i32_22
  let v55 : BitVec 32 := Scalar.extui v54
  let c0_i32_23 : BitVec 32 := 0#32
  let v56 : BitVec 1 := Scalar.cmpi .slt v52 c0_i32_23
  let v57 : BitVec 32 := Scalar.extui v56
  let v58 : BitVec 32 := Scalar.subi v55 v57
  let c4_i32_21 : BitVec 32 := 4#32
  let c0_i32_24 : BitVec 32 := 0#32
  let v59 : BitVec 1 := Scalar.cmpi .sgt c4_i32_21 c0_i32_24
  let v60 : BitVec 32 := Scalar.extui v59
  let c0_i32_25 : BitVec 32 := 0#32
  let v61 : BitVec 1 := Scalar.cmpi .slt c4_i32_21 c0_i32_25
  let v62 : BitVec 32 := Scalar.extui v61
  let v63 : BitVec 32 := Scalar.subi v60 v62
  let v64 : BitVec 1 := Scalar.cmpi .ne v58 v63
  let v65 : BitVec 32 := Scalar.remsi v52 c4_i32_21
  let c0_i32_26 : BitVec 32 := 0#32
  let v66 : BitVec 1 := Scalar.cmpi .ne v65 c0_i32_26
  let v67 : BitVec 1 := Scalar.andi v64 v66
  let v53 : BitVec 32 := Scalar.divsi v52 c4_i32_21
  let c1_i32_27 : BitVec 32 := 1#32
  let v68 : BitVec 32 := Scalar.subi v53 c1_i32_27
  let v69 : BitVec 32 := Scalar.select v67 v68 v53
  let v70 : BitVec 32 := Scalar.addi c8_i32 v69
  let c12_i32 : BitVec 32 := 12#32
  let c13_i32 : BitVec 32 := 13#32
  let v71 : BitVec 32 := Scalar.subi c13_i32 v2
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c4_i32_28 : BitVec 32 := 4#32
  let c0_i32_31 : BitVec 32 := 0#32
  let v78 : BitVec 1 := Scalar.cmpi .sgt c4_i32_28 c0_i32_31
  let v79 : BitVec 32 := Scalar.extui v78
  let c0_i32_32 : BitVec 32 := 0#32
  let v80 : BitVec 1 := Scalar.cmpi .slt c4_i32_28 c0_i32_32
  let v81 : BitVec 32 := Scalar.extui v80
  let v82 : BitVec 32 := Scalar.subi v79 v81
  let v83 : BitVec 1 := Scalar.cmpi .ne v77 v82
  let v84 : BitVec 32 := Scalar.remsi v71 c4_i32_28
  let c0_i32_33 : BitVec 32 := 0#32
  let v85 : BitVec 1 := Scalar.cmpi .ne v84 c0_i32_33
  let v86 : BitVec 1 := Scalar.andi v83 v85
  let v72 : BitVec 32 := Scalar.divsi v71 c4_i32_28
  let c1_i32_34 : BitVec 32 := 1#32
  let v87 : BitVec 32 := Scalar.subi v72 c1_i32_34
  let v88 : BitVec 32 := Scalar.select v86 v87 v72
  let v89 : BitVec 32 := Scalar.addi c12_i32 v88
  let v90 : BitVec 32 := Scalar.select v51 v70 v89
  let v91 : BitVec 32 := Scalar.select v31 v50 v90
  let v92 : BitVec 32 := Scalar.select v13 v30 v91
  let c15_i32_60 : BitVec 32 := 15#32
  let v135 : BitVec 32 := Scalar.addi v92 c15_i32_60
  let c16_i32_61 : BitVec 32 := 16#32
  let v136 : BitVec 32 := Scalar.remsi v135 c16_i32_61
  let c0_i32_63 : BitVec 32 := 0#32
  let v138 : BitVec 1 := Scalar.cmpi .sgt v136 c0_i32_63
  let v139 : BitVec 32 := Scalar.extui v138
  let c0_i32_64 : BitVec 32 := 0#32
  let v140 : BitVec 1 := Scalar.cmpi .slt v136 c0_i32_64
  let v141 : BitVec 32 := Scalar.extui v140
  let v142 : BitVec 32 := Scalar.subi v139 v141
  let c4_i32_62 : BitVec 32 := 4#32
  let c0_i32_65 : BitVec 32 := 0#32
  let v143 : BitVec 1 := Scalar.cmpi .sgt c4_i32_62 c0_i32_65
  let v144 : BitVec 32 := Scalar.extui v143
  let c0_i32_66 : BitVec 32 := 0#32
  let v145 : BitVec 1 := Scalar.cmpi .slt c4_i32_62 c0_i32_66
  let v146 : BitVec 32 := Scalar.extui v145
  let v147 : BitVec 32 := Scalar.subi v144 v146
  let v148 : BitVec 1 := Scalar.cmpi .ne v142 v147
  let v149 : BitVec 32 := Scalar.remsi v136 c4_i32_62
  let c0_i32_67 : BitVec 32 := 0#32
  let v150 : BitVec 1 := Scalar.cmpi .ne v149 c0_i32_67
  let v151 : BitVec 1 := Scalar.andi v148 v150
  let v137 : BitVec 32 := Scalar.divsi v136 c4_i32_62
  let c1_i32_68 : BitVec 32 := 1#32
  let v152 : BitVec 32 := Scalar.subi v137 c1_i32_68
  let v153 : BitVec 32 := Scalar.select v151 v152 v137
  let c0_i32_75 : BitVec 32 := 0#32
  let v164 : BitVec 1 := Scalar.cmpi .eq v153 c0_i32_75
  let c4_i32_76 : BitVec 32 := 4#32
  let c4_i32_69 : BitVec 32 := 4#32
  let c0_i32_70 : BitVec 32 := 0#32
  let v154 : BitVec 1 := Scalar.cmpi .eq c4_i32_69 c0_i32_70
  let c1_i32_71 : BitVec 32 := 1#32
  let v155 : BitVec 32 := Scalar.select v154 c1_i32_71 c4_i32_69
  let v156 : BitVec 32 := Scalar.remsi v136 v155
  let c0_i32_73 : BitVec 32 := 0#32
  let v158 : BitVec 1 := Scalar.cmpi .slt v156 c0_i32_73
  let c0_i32_74 : BitVec 32 := 0#32
  let v159 : BitVec 1 := Scalar.cmpi .slt v155 c0_i32_74
  let v160 : BitVec 1 := Scalar.xori v158 v159
  let c0_i32_72 : BitVec 32 := 0#32
  let v157 : BitVec 1 := Scalar.cmpi .ne v156 c0_i32_72
  let v161 : BitVec 1 := Scalar.andi v160 v157
  let v162 : BitVec 32 := Scalar.addi v156 v155
  let v163 : BitVec 32 := Scalar.select v161 v162 v156
  let v165 : BitVec 32 := Scalar.muli c4_i32_76 v163
  let c1_i32_77 : BitVec 32 := 1#32
  let v166 : BitVec 1 := Scalar.cmpi .eq v153 c1_i32_77
  let c15_i32_79 : BitVec 32 := 15#32
  let c4_i32_78 : BitVec 32 := 4#32
  let v167 : BitVec 32 := Scalar.muli c4_i32_78 v163
  let v168 : BitVec 32 := Scalar.subi c15_i32_79 v167
  let c2_i32_80 : BitVec 32 := 2#32
  let v169 : BitVec 1 := Scalar.cmpi .eq v153 c2_i32_80
  let c2_i32_82 : BitVec 32 := 2#32
  let c4_i32_81 : BitVec 32 := 4#32
  let v170 : BitVec 32 := Scalar.muli c4_i32_81 v163
  let v171 : BitVec 32 := Scalar.addi c2_i32_82 v170
  let c13_i32_84 : BitVec 32 := 13#32
  let c4_i32_83 : BitVec 32 := 4#32
  let v172 : BitVec 32 := Scalar.muli c4_i32_83 v163
  let v173 : BitVec 32 := Scalar.subi c13_i32_84 v172
  let v174 : BitVec 32 := Scalar.select v169 v171 v173
  let v175 : BitVec 32 := Scalar.select v166 v168 v174
  let v176 : BitVec 32 := Scalar.select v164 v165 v175
  let c1_i32_10166 : BitVec 32 := 1#32
  let v7938 : BitVec 32 := Scalar.muli v176 c1_i32_10166
  let v7939 : BitVec 32 := Scalar.addi c0_i32_10167 v7938
  v7939.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S16x4096x1024 : Shape := ⟨3, ![16, 4096, 1024]⟩
abbrev S_ : Shape := ⟨0, ![]⟩
abbrev S4096x1024 : Shape := ⟨2, ![4096, 1024]⟩

abbrev nBuf : Space → Nat
  | .hbm => 15
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S16x4096x1024, .bf16⟩
  | .hbm, ⟨2, _⟩ => ⟨S16x4096x1024, .f32⟩
  | .hbm, ⟨3, _⟩ => ⟨S_, .f32⟩
  | .hbm, ⟨4, _⟩ => ⟨S4096x1024, .f32⟩
  | .hbm, ⟨5, _⟩ => ⟨S4096x1024, .bf16⟩
  | .hbm, ⟨6, _⟩ => ⟨S_, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.Body.lean ====
/- The kernel body written once more, as the 31 stages of 8 rings it is: what a stage does to a ring is one
   definition at a symbolic ring and stage, and the body is the list of all of them (`cc0_body_eq`). -/
module

public import proofs.«01_k».proof.Proof.Gen.KernelIdeal
public import Idealize.ShloMosaic.Lib.Pipeline.Regions

@[expose] public section

noncomputable section

namespace Cert.KernelIdeal.Gen

open Idealize.ShloMosaic Idealize.SL.Sem

variable {F : FTy → Type} [FloatOps F]

/-! ## Offsets -/

/-- What the chunk index of message `15 + g` of ring `r` adds to the device's position. -/
def sendAdd (r : Fin 8) (g : ℕ) : ℕ :=
  if r.val < 4 then (if g = 0 then 1 else 17 - g) else (if g = 0 then 15 else g - 1)
/-- Where the output chunk of message `15 + g` of ring `r` lies. -/
def offSend (d : Dev nD) (r : Fin 8) (g : Fin 15) : Fin 2 → ℕ :=
  k0_off2 d (BitVec.ofNat 32 (512 * r.val)) (BitVec.ofNat 32 (sendAdd r g.val))
/-- Where the input chunk added at step `s` of ring `r` lies. -/
def offAdd (d : Dev nD) (r : Fin 8) (s : Fin 15) : Fin 2 → ℕ :=
  if r.val < 4 then k0_off2 d (BitVec.ofNat 32 (512 * r.val)) (BitVec.ofNat 32 (31 - s.val))
  else k0_off3 d (BitVec.ofNat 32 (512 * r.val)) (BitVec.ofNat 32 s.val)
/-- Where the input chunk that ring `r` sends first lies. -/
def offSeed (d : Dev nD) (r : Fin 8) : Fin 2 → ℕ := k0_off1 d (BitVec.ofNat 32 (512 * r.val))
/-- Where the chunk of ring `r` that the device finishes is stored. -/
def offOwn (d : Dev nD) (r : Fin 8) : Fin 2 → ℕ :=
  k0_off4 d (BitVec.ofNat 32 (512 * r.val)) (BitVec.ofNat 32 (if r.val < 4 then 1 else 15))

theorem offSend_inb : ∀ (d : Dev nD) (r : Fin 8) (g : Fin 15), ∀ a, offSend d r g a + S32x1024.size a ≤ S4096x1024.size a := by decide +kernel
theorem offAdd_inb : ∀ (d : Dev nD) (r : Fin 8) (s : Fin 15), ∀ a, offAdd d r s a + S32x1024.size a ≤ S4096x1024.size a := by decide +kernel
theorem offSeed_inb : ∀ (d : Dev nD) (r : Fin 8), ∀ a, offSeed d r a + S32x1024.size a ≤ S4096x1024.size a := by decide +kernel
theorem offOwn_inb : ∀ (d : Dev nD) (r : Fin 8), ∀ a, offOwn d r a + S32x1024.size a ≤ S4096x1024.size a := by decide +kernel

theorem comm_inb : ∀ (r : Fin 8) (s : Fin 15), ∀ a, (![r.val, s.val, 0, 0] : Fin 4 → Nat) a + S1x1x32x1024.size a ≤ S8x15x32x1024.size a := by decide +kernel
theorem seed_inb : ∀ (r : Fin 8), ∀ a, (![r.val, 0, 0] : Fin 3 → Nat) a + S1x32x1024.size a ≤ S8x32x1024.size a := by decide +kernel
theorem sendS_inb : ∀ (r : Fin 8) (b : Fin 2), ∀ a, (![r.val, b.val] : Fin 2 → Nat) a + S1x1.size a ≤ S8x2.size a := by decide +kernel
theorem recvS_inb : ∀ (r : Fin 8) (s : Fin 15), ∀ a, (![r.val, s.val] : Fin 2 → Nat) a + S1x1.size a ≤ S8x15.size a := by decide +kernel

abbrev commR (r : Fin 8) (s : Fin 15) := Rect.unit (s := S8x15x32x1024) ![r.val, s.val, 0, 0] S1x1x32x1024.size (comm_inb r s)
abbrev seedR (r : Fin 8) := Rect.unit (s := S8x32x1024) ![r.val, 0, 0] S1x32x1024.size (seed_inb r)

theorem comm_words : ∀ (r : Fin 8) (s : Fin 15), (commR r s).WholeWords (EltTy.packing .bf16) := by decide +kernel
theorem comm_packed : ∀ (r : Fin 8) (s : Fin 15), (commR r s).PackedRows (EltTy.packing .bf16) := by decide +kernel
theorem seed_words : ∀ (r : Fin 8), (seedR r).WholeWords (EltTy.packing .bf16) := by decide +kernel
theorem seed_packed : ∀ (r : Fin 8), (seedR r).PackedRows (EltTy.packing .bf16) := by decide +kernel

/-- A chunk of the input or the output: 32 rows at an offset. -/
abbrev chunkR (off : Fin 2 → ℕ) (h : ∀ a, off a + S32x1024.size a ≤ S4096x1024.size a) :=
  Rect.unit (s := S4096x1024) off S32x1024.size h

theorem send_words : ∀ (d : Dev nD) (r : Fin 8) (g : Fin 15), (chunkR (offSend d r g) (offSend_inb d r g)).WholeWords (EltTy.packing .bf16) := by decide +kernel
theorem own_packed : ∀ (d : Dev nD) (r : Fin 8), (chunkR (offOwn d r) (offOwn_inb d r)).PackedRows (EltTy.packing .bf16) := by decide +kernel

/-! ## The operations of a stage -/

/-- The device ring `r` of device `d` sends to. -/
def dnDev (d : Dev nD) (r : Fin 8) : Dev nD := if r.val < 4 then ⟨k0_dev2 d, k0_dev2_lt d⟩ else ⟨k0_dev1 d, k0_dev1_lt d⟩

abbrev outM (arg1 : Memref sig .tc .vmem S4096x1024 .bf16) (off : Fin 2 → ℕ) (h : ∀ a, off a + S32x1024.size a ≤ S4096x1024.size a) :
    Memref sig .tc .vmem S32x1024 .bf16 := arg1.slice (chunkR off h) (fun _ => rfl)
abbrev commM (arg2 : Memref sig .tc .vmem S8x15x32x1024 .bf16) (r : Fin 8) (s : Fin 15) : Memref sig .tc .vmem S32x1024 .bf16 :=
  (arg2.slice (commR r s) (fun _ => rfl)).squeeze S32x1024 squeezes_S1x1x32x1024_S32x1024
abbrev seedM (arg3 : Memref sig .tc .vmem S8x32x1024 .bf16) (r : Fin 8) : Memref sig .tc .vmem S32x1024 .bf16 :=
  (arg3.slice (seedR r) (fun _ => rfl)).squeeze S32x1024 squeezes_S1x32x1024_S32x1024
abbrev sendS (arg4 : DmaSems sig S8x2) (r : Fin 8) (b : Fin 2) : DmaSem sig :=
  ((arg4.slice (Rect.unit (s := S8x2) ![r.val, b.val] S1x1.size (sendS_inb r b))).squeeze S_ squeezes_S1x1_S_).sem
abbrev recvS (arg5 : DmaSems sig S8x15) (r : Fin 8) (s : Fin 15) : DmaSem sig :=
  ((arg5.slice (Rect.unit (s := S8x15) ![r.val, s.val] S1x1.size (recvS_inb r s))).squeeze S_ squeezes_S1x1_S_).sem

/-- The slot of the send semaphores that message `k` completes on. -/
def slotN (k : ℕ) : ℕ := if k < 15 then k % 2 else (k - 15) % 2
def slotOf (k : ℕ) : Fin 2 := ⟨slotN k, by unfold slotN; split <;> omega⟩
def mod15 (k : ℕ) : Fin 15 := ⟨k % 15, by omega⟩
/-- The message before message `k` on its send semaphore. -/
def prevOf (k : ℕ) : ℕ := if k = 15 then 14 else if k = 16 then 13 else k - 2

/-- A TensorCore's program. -/
abbrev PB (F : FTy → Type) := Prog (TpuEff nD τ sig (Elt F) Λ₀ .tc) PUnit

/-- A load, its continuation named after the value. -/
abbrev opLoad {s : Shape} {e : EltTy} (M : Memref sig .tc .vmem s e) (R : Rect s) (h : M.view.LoadsAt R.toLoadRect) (K : (R.shape.Idx → Elt F e) → PB F) : PB F :=
  .op (.load M R.toLoadRect h) K
/-- All of a chunk. -/
abbrev fullR := Rect.unit (s := S32x1024) ![0, 0] S32x1024.size inb_S32x1024_S32x1024_0_0

section Ops
variable (arg0 : Memref sig .tc .vmem S4096x1024 .bf16) (harg0 : arg0.IsWhole) (arg1 : Memref sig .tc .vmem S4096x1024 .bf16) (harg1 : arg1.IsWhole)
  (arg2 : Memref sig .tc .vmem S8x15x32x1024 .bf16) (harg2 : arg2.IsWhole) (arg3 : Memref sig .tc .vmem S8x32x1024 .bf16) (harg3 : arg3.IsWhole)
  (arg4 : DmaSems sig S8x2) (arg5 : DmaSems sig S8x15)

/-- Where message `k` of ring `r` is read on its sender `d`. -/
def srcM (d : Dev nD) (r : Fin 8) (k : ℕ) : Memref sig .tc .vmem S32x1024 .bf16 :=
  if k = 0 then seedM arg3 r
  else if k < 15 then commM arg2 r (mod15 (k - 1))
  else outM arg1 (offSend d r (mod15 k)) (offSend_inb d r (mod15 k))
/-- Where message `k` of ring `r` from `d` is written on its receiver. -/
def dstM (d : Dev nD) (r : Fin 8) (k : ℕ) : Memref sig .tc .vmem S32x1024 .bf16 :=
  if k < 15 then commM arg2 r (mod15 k)
  else outM arg1 (offSend d r (mod15 k)) (offSend_inb d r (mod15 k))

include harg1 harg2 harg3 in
theorem srcM_words (d : Dev nD) (r : Fin 8) (k : ℕ) : (srcM arg1 arg2 arg3 d r k).view.WordExact := by
  unfold srcM
  split
  · exact (harg3.wordExact_slice rfl _ (seed_words r)).reshape _ _
  · split
    · exact (harg2.wordExact_slice rfl _ (comm_words r _)).reshape _ _
    · exact harg1.wordExact_slice rfl _ (send_words d r _)
include harg1 harg2 in
theorem dstM_words (d : Dev nD) (r : Fin 8) (k : ℕ) : (dstM arg1 arg2 d r k).view.WordExact := by
  unfold dstM
  split
  · exact (harg2.wordExact_slice rfl _ (comm_words r _)).reshape _ _
  · exact harg1.wordExact_slice rfl _ (send_words d r _)

/-- Send message `k` of ring `r`. -/
def opSend (d : Dev nD) (r : Fin 8) (k : ℕ) (K : PB F) : PB F :=
  .op (.enqueueDma (srcM arg1 arg2 arg3 d r k)
      (.remote (Dev.tc (dnDev d r)) (dstM arg1 arg2 d r k) (.dma (sendS arg4 r (slotOf k))))
      (.dma (recvS arg5 r (mod15 k)))
      (srcM_words arg1 harg1 arg2 harg2 arg3 harg3 d r k) (dstM_words arg1 harg1 arg2 harg2 d r k) ⟨⟨rfl, Or.inl rfl⟩, trivial⟩) fun _ => K
/-- Wait until message `k` of ring `r` has left. -/
def opWaitSend (d : Dev nD) (r : Fin 8) (k : ℕ) (K : PB F) : PB F :=
  .op (.waitDma2 (sendS arg4 r (slotOf k)) (dstM arg1 arg2 d r k) (srcM arg1 arg2 arg3 d r k)
      (dstM_words arg1 harg1 arg2 harg2 d r k) (srcM_words arg1 harg1 arg2 harg2 arg3 harg3 d r k)) fun _ => K
/-- Wait until message `k` of ring `r` has arrived. -/
def opWaitRecv (d : Dev nD) (r : Fin 8) (k : ℕ) (K : PB F) : PB F :=
  .op (.waitDma2 (recvS arg5 r (mod15 k)) (srcM arg1 arg2 arg3 d r k) (dstM arg1 arg2 d r k)
      (srcM_words arg1 harg1 arg2 harg2 arg3 harg3 d r k) (dstM_words arg1 harg1 arg2 harg2 d r k)) fun _ => K

/-- The value stored in the seed buffer. -/
def paySeed (v : FVec F S32x1024 .bf16) : FVec F S1x32x1024 .bf16 :=
  shapeCast S1x32x1024 (shapeCast S32x1024 v shapeCasts_S32x1024_S32x1024) shapeCasts_S32x1024_S1x32x1024
/-- A received partial sum with the own chunk added. -/
def sumOf (v : FVec F S1x1x32x1024 .bf16) (w : FVec F S32x1024 .bf16) : FVec F S32x1024 .f32 :=
  addf (extf .f32 (shapeCast S32x1024 v shapeCasts_S1x1x32x1024_S32x1024) bitsLt_bf16_f32)
    (extf .f32 (shapeCast S32x1024 w shapeCasts_S32x1024_S32x1024) bitsLt_bf16_f32)
/-- The partial sum sent on. -/
def payAdd (v : FVec F S1x1x32x1024 .bf16) (w : FVec F S32x1024 .bf16) : FVec F S1x1x32x1024 .bf16 :=
  shapeCast S1x1x32x1024 (truncf .bf16 (sumOf v w) bitsLt_bf16_f32) shapeCasts_S32x1024_S1x1x32x1024
def reluOf (s : FVec F S32x1024 .f32) : FVec F S32x1024 .f32 := maximumf s (broadcast S32x1024 (Scalar.ofBits .f32 0x00000000#32))
/-- The function applied to a finished sum. -/
def actOf (s : FVec F S32x1024 .f32) : FVec F S32x1024 .f32 :=
  addf (mulf (mulf (tanh s) s) s) (mulf (mulf (reluOf s) (reluOf s)) (reluOf s))
def payOut (v : FVec F S1x1x32x1024 .bf16) (w : FVec F S32x1024 .bf16) : FVec F S32x1024 .bf16 :=
  truncf .bf16 (actOf (sumOf v w)) bitsLt_bf16_f32

/-- Copy the chunk ring `r` sends first to the seed buffer. -/
def opSeed (d : Dev nD) (r : Fin 8) (K : PB F) : PB F :=
  opLoad (outM arg0 (offSeed d r) (offSeed_inb d r)) fullR (View.loadsAt_vmem h_S32x1024) fun v =>
  opLoad arg3 (seedR r) (View.loadsAt_vmem h_S1x32x1024) fun _ =>
  .op (.store arg3 (seedR r) (paySeed v) Finset.univ
      (View.stores_vmem h_S1x32x1024 (harg3.storeExact_slice rfl _ (seed_packed r)) (fun _ => rfl)) (.inl rfl)) fun _ => K
/-- Add the own chunk to what arrived at step `s` of ring `r`. -/
def opAdd (d : Dev nD) (r : Fin 8) (s : Fin 15) (K : PB F) : PB F :=
  opLoad arg2 (commR r s) (View.loadsAt_vmem h_S1x1x32x1024) fun v =>
  opLoad (outM arg0 (offAdd d r s) (offAdd_inb d r s)) fullR (View.loadsAt_vmem h_S32x1024) fun w =>
  opLoad arg2 (commR r s) (View.loadsAt_vmem h_S1x1x32x1024) fun _ =>
  .op (.store arg2 (commR r s) (payAdd v w) Finset.univ
      (View.stores_vmem h_S1x1x32x1024 (harg2.storeExact_slice rfl _ (comm_packed r s)) (fun _ => rfl)) (.inl rfl)) fun _ => K
/-- Finish the chunk of ring `r` that the device owns. -/
def opOwn (d : Dev nD) (r : Fin 8) (K : PB F) : PB F :=
  opLoad arg2 (commR r 14) (View.loadsAt_vmem h_S1x1x32x1024) fun v =>
  opLoad (outM arg0 (offAdd d r 14) (offAdd_inb d r 14)) fullR (View.loadsAt_vmem h_S32x1024) fun w =>
  opLoad arg1 (chunkR (offOwn d r) (offOwn_inb d r)) (View.loadsAt_vmem h_S32x1024) fun _ =>
  .op (.store arg1 (chunkR (offOwn d r) (offOwn_inb d r)) (payOut v w) Finset.univ
      (View.stores_vmem h_S32x1024 (harg1.storeExact_slice rfl _ (own_packed d r)) (fun _ => rfl)) (.inl rfl)) fun _ => K

/-- Stage `m` of ring `r`. -/
def stageR (d : Dev nD) (m : ℕ) (r : Fin 8) (K : PB F) : PB F :=
  if m = 0 then opSeed arg0 arg3 harg3 d r (opSend arg1 harg1 arg2 harg2 arg3 harg3 arg4 arg5 d r 0 K)
  else if m = 1 then
    opWaitRecv arg1 harg1 arg2 harg2 arg3 harg3 arg5 d r 0 (opAdd arg0 arg2 harg2 d r 0 (opSend arg1 harg1 arg2 harg2 arg3 harg3 arg4 arg5 d r 1 K))
  else if m < 15 then
    opWaitRecv arg1 harg1 arg2 harg2 arg3 harg3 arg5 d r (m - 1) (opAdd arg0 arg2 harg2 d r (mod15 (m - 1))
      (opWaitSend arg1 harg1 arg2 harg2 arg3 harg3 arg4 d r (prevOf m) (opSend arg1 harg1 arg2 harg2 arg3 harg3 arg4 arg5 d r m K)))
  else if m = 15 then
    opWaitRecv arg1 harg1 arg2 harg2 arg3 harg3 arg5 d r 14 (opOwn arg0 arg1 harg1 arg2 d r
      (opWaitSend arg1 harg1 arg2 harg2 arg3 harg3 arg4 d r 14 (opSend arg1 harg1 arg2 harg2 arg3 harg3 arg4 arg5 d r 15 K)))
  else if m < 30 then
    opWaitRecv arg1 harg1 arg2 harg2 arg3 harg3 arg5 d r (m - 1)
      (opWaitSend arg1 harg1 arg2 harg2 arg3 harg3 arg4 d r (prevOf m) (opSend arg1 harg1 arg2 harg2 arg3 harg3 arg4 arg5 d r m K))
  else opWaitRecv arg1 harg1 arg2 harg2 arg3 harg3 arg5 d r 29 K

/-- Stage `m` of the listed rings. -/
def stageL (d : Dev nD) (m : ℕ) : List (Fin 8) → PB F → PB F
  | [], K => K
  | r :: l, K => stageR arg0 arg1 harg1 arg2 harg2 arg3 harg3 arg4 arg5 d m r (stageL d m l K)
abbrev rings : List (Fin 8) := [0, 1, 2, 3, 4, 5, 6, 7]
/-- The stages `m`, `m + 1`, … as many as `n`. -/
def stages (d : Dev nD) : ℕ → ℕ → PB F → PB F
  | _, 0, K => K
  | m, n + 1, K => stageL arg0 arg1 harg1 arg2 harg2 arg3 harg3 arg4 arg5 d m rings (stages d (m + 1) n K)
/-- Wait until message `k` of the listed rings has left. -/
def drainL (d : Dev nD) (k : ℕ) : List (Fin 8) → PB F → PB F
  | [], K => K
  | r :: l, K => opWaitSend arg1 harg1 arg2 harg2 arg3 harg3 arg4 d r k (drainL d k l K)

/-- The body from the handshake on. -/
def bodyK (d : Dev nD) : PB F :=
  .op (.semSignal ((⟨k0_dev1 d, k0_dev1_lt d⟩ : Dev nD), .tc) (SemArray.scalar (sig.barrier 0 rfl) : Sems sig S_).sem (1#32).toInt) fun _ =>
  .op (.semSignal ((⟨k0_dev2 d, k0_dev2_lt d⟩ : Dev nD), .tc) (SemArray.scalar (sig.barrier 0 rfl) : Sems sig S_).sem (1#32).toInt) fun _ =>
  .op (.semWait (SemArray.scalar (sig.barrier 0 rfl) : Sems sig S_).sem (2#32).toInt) fun _ =>
  stages arg0 arg1 harg1 arg2 harg2 arg3 harg3 arg4 arg5 d 0 31
    (drainL arg1 harg1 arg2 harg2 arg3 harg3 arg4 d 29 rings (drainL arg1 harg1 arg2 harg2 arg3 harg3 arg4 d 28 rings (.ret ⟨⟩)))
def body : PB F := .op .deviceId (bodyK arg0 arg1 harg1 arg2 harg2 arg3 harg3 arg4 arg5)

set_option maxRecDepth 100000 in
/-- The printed body is the stages. -/
theorem cc0_body_eq : cc0_body (F := F) arg0 harg0 arg1 harg1 arg2 harg2 arg3 harg3 arg4 arg5
    = body arg0 arg1 harg1 arg2 harg2 arg3 harg3 arg4 arg5 := by chain_rfl

end Ops

end Cert.KernelIdeal.Gen
-- ==== Proof.Geometry.lean ====
/- The ring of devices, the chunks each ring moves, and what every message carries. -/
module

public import proofs.«01_k».proof.Proof.Body
public import Idealize.ShloMosaic.Lib.Pipeline.Value

@[expose] public section

noncomputable section

namespace Cert.KernelIdeal.Gen

open Idealize.ShloMosaic Idealize.SL.Sem
open Idealize.ShloMosaic

/-! ## The ring -/

/-- A device's position on the ring, and the device at a position. -/
def pos (d : Dev nD) : Fin 16 := (![0, 15, 8, 7, 1, 14, 9, 6, 2, 13, 10, 5, 3, 12, 11, 4] : Fin 16 → Fin 16) d
def devAt (p : Fin 16) : Dev nD := (![0, 4, 8, 12, 15, 11, 7, 3, 2, 6, 10, 14, 13, 9, 5, 1] : Fin 16 → Fin 16) p
theorem devAt_pos : ∀ d, devAt (pos d) = d := by decide +kernel
theorem pos_devAt : ∀ p, pos (devAt p) = p := by decide +kernel

def rt (d : Dev nD) : Dev nD := devAt (pos d + 1)
def lf (d : Dev nD) : Dev nD := devAt (pos d + 15)
theorem rt_lf : ∀ d, rt (lf d) = d := by decide +kernel
theorem lf_rt : ∀ d, lf (rt d) = d := by decide +kernel
theorem dev1_eq : ∀ d : Dev nD, (⟨k0_dev1 d, k0_dev1_lt d⟩ : Dev nD) = lf d := by decide +kernel
theorem dev2_eq : ∀ d : Dev nD, (⟨k0_dev2 d, k0_dev2_lt d⟩ : Dev nD) = rt d := by decide +kernel

/-- The device ring `r` of `d` sends to, and the one it receives from. -/
def dn (d : Dev nD) (r : Fin 8) : Dev nD := if r.val < 4 then rt d else lf d
def up (d : Dev nD) (r : Fin 8) : Dev nD := if r.val < 4 then lf d else rt d
/-- The ring of the other direction. -/
def pair (r : Fin 8) : Fin 8 := r + 4
theorem up_dn (d : Dev nD) (r : Fin 8) : up (dn d r) r = d := by
  unfold up dn; split
  · exact lf_rt d
  · exact rt_lf d
theorem dn_up (d : Dev nD) (r : Fin 8) : dn (up d r) r = d := by
  unfold up dn; split
  · exact rt_lf d
  · exact lf_rt d
theorem pair_pair : ∀ r, pair (pair r) = r := by decide +kernel
theorem dn_pair : ∀ d r, dn d (pair r) = up d r := by decide +kernel
theorem up_pair : ∀ d r, up d (pair r) = dn d r := by decide +kernel
theorem dnDev_eq (d : Dev nD) (r : Fin 8) : dnDev d r = dn d r := by
  unfold dnDev dn; rw [dev1_eq, dev2_eq]

/-! ## The chunks -/

/-- The chunk of ring `r` that device `d` holds finished after `g` steps of the second half. -/
def hIdx (d : Dev nD) (r : Fin 8) (g : ℕ) : Fin 16 := ⟨((pos d).val + (if r.val < 4 then 17 + 15 * g else 15 + g)) % 16, Nat.mod_lt _ (by decide)⟩
/-- The chunk of ring `r` that device `d` adds to at step `s` of the first half. -/
def aIdx (d : Dev nD) (r : Fin 8) (s : ℕ) : Fin 16 := ⟨((pos d).val + (if r.val < 4 then 31 + 15 * s else 1 + s)) % 16, Nat.mod_lt _ (by decide)⟩

/-- Where chunk `j` of ring `r` lies. -/
def chunkOff (r : Fin 8) (j : Fin 16) : Fin 2 → ℕ := ![512 * r.val + 32 * j.val, 0]
theorem chunkOff_inb : ∀ (r : Fin 8) (j : Fin 16), ∀ a, chunkOff r j a + S32x1024.size a ≤ S4096x1024.size a := by decide +kernel
theorem offSend_eq : ∀ (d : Dev nD) (r : Fin 8) (g : Fin 15), offSend d r g = chunkOff r (hIdx d r g.val) := by decide +kernel
theorem offAdd_eq : ∀ (d : Dev nD) (r : Fin 8) (s : Fin 15), offAdd d r s = chunkOff r (aIdx d r s.val) := by decide +kernel
theorem offSeed_eq : ∀ (d : Dev nD) (r : Fin 8), offSeed d r = chunkOff r (pos d) := by decide +kernel
theorem offOwn_eq : ∀ (d : Dev nD) (r : Fin 8), offOwn d r = offSend d r 0 := by decide +kernel
/-- A chunk received is the sender's. -/
theorem hIdx_up : ∀ (d : Dev nD) (r : Fin 8) (g : Fin 15), hIdx d r (g.val + 1) = hIdx (up d r) r g.val := by decide +kernel
/-- The chunk a device finishes is the one it adds to last. -/
theorem aIdx_last : ∀ (d : Dev nD) (r : Fin 8), aIdx d r 14 = hIdx d r 0 := by decide +kernel
theorem hIdx_bij : ∀ (d : Dev nD) (r : Fin 8) (j : Fin 16), ∃ g : Fin 16, hIdx d r g.val = j := by decide +kernel
theorem hIdx_inj : ∀ (d : Dev nD) (r : Fin 8) (g g' : Fin 16), hIdx d r g.val = hIdx d r g'.val → g = g' := by decide +kernel

/-- A chunk as a rectangle. -/
abbrev cR (r : Fin 8) (j : Fin 16) : Rect S4096x1024 := chunkR (chunkOff r j) (chunkOff_inb r j)

theorem outM_congr (A : Memref sig .tc .vmem S4096x1024 .bf16) {off off' : Fin 2 → ℕ} (e : off = off') (h h') : outM A off h = outM A off' h' := by
  subst e; rfl

theorem prevOf_slot : ∀ k : Fin 30, 2 ≤ k.val → slotOf (prevOf k.val) = slotOf k.val := by decide +kernel

/-! ## What the messages carry -/

section Values
variable {F : FTy → Type} [FloatOps F] (xs : Dev nD → S4096x1024.Idx → Elt F .bf16)

/-- Chunk `j` of ring `r` of device `d`'s input. -/
def xch (d : Dev nD) (r : Fin 8) (j : Fin 16) : FVec F S32x1024 .bf16 := fun i => xs d ((cR r j).emb i)
/-- Two chunks added in single precision. -/
def addOf (v w : FVec F S32x1024 .bf16) : FVec F S32x1024 .f32 := addf (extf .f32 v bitsLt_bf16_f32) (extf .f32 w bitsLt_bf16_f32)
/-- What message `k` of ring `r` from device `d` carries. -/
def msgV : ℕ → Fin 8 → Dev nD → FVec F S32x1024 .bf16
  | 0, r, d => xch xs d r (pos d)
  | k + 1, r, d =>
    if k < 14 then truncf .bf16 (addOf (msgV k r (up d r)) (xch xs d r (aIdx d r k))) bitsLt_bf16_f32
    else if k = 14 then truncf .bf16 (actOf (addOf (msgV k r (up d r)) (xch xs d r (aIdx d r k)))) bitsLt_bf16_f32
    else msgV k r (up d r)

theorem msgV_add {k : ℕ} (h : k < 14) (r : Fin 8) (d : Dev nD) :
    msgV xs (k + 1) r d = truncf .bf16 (addOf (msgV xs k r (up d r)) (xch xs d r (aIdx d r k))) bitsLt_bf16_f32 := by
  show (if k < 14 then _ else _) = _; rw [if_pos h]
theorem msgV_own (r : Fin 8) (d : Dev nD) :
    msgV xs 15 r d = truncf .bf16 (actOf (addOf (msgV xs 14 r (up d r)) (xch xs d r (aIdx d r 14)))) bitsLt_bf16_f32 := rfl
theorem msgV_pass {k : ℕ} (h : 15 ≤ k) (r : Fin 8) (d : Dev nD) : msgV xs (k + 1) r d = msgV xs k r (up d r) := by
  show (if k < 14 then _ else if k = 14 then _ else _) = _
  rw [if_neg (by omega), if_neg (by omega)]

theorem shapeCast_paySeed (v : FVec F S32x1024 .bf16) : shapeCast S32x1024 (paySeed v) squeezes_S1x32x1024_S32x1024.numel_eq = v := by
  unfold paySeed; rw [shapeCast_self, shapeCast_shapeCast]
theorem sumOf_eq (v : FVec F S1x1x32x1024 .bf16) (w : FVec F S32x1024 .bf16) (u : FVec F S32x1024 .bf16)
    (h : shapeCast S32x1024 v shapeCasts_S1x1x32x1024_S32x1024 = u) : sumOf v w = addOf u w := by
  unfold sumOf addOf; rw [h, shapeCast_self]

end Values

end Cert.KernelIdeal.Gen
-- ==== Proof.Protocol.lean ====
/- The semaphores of the kernel: who pays which, in which round, with what. -/
module

public import proofs.«01_k».proof.Proof.Geometry
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev UB : Type := URounds (GSem nD τ sig) Bool
abbrev UU : Type := UR sig nD τ × UB

variable {F : FTy → Type} [FloatOps F]

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## The buffers -/

abbrev A0 : Memref sig .tc .vmem S4096x1024 .bf16 := Memref.whole cc0_stg0_0
abbrev A1 : Memref sig .tc .vmem S4096x1024 .bf16 := Memref.whole cc0_stg1_0
abbrev A2 : Memref sig .tc .vmem S8x15x32x1024 .bf16 := Memref.whole cc0_scratch0
abbrev A3 : Memref sig .tc .vmem S8x32x1024 .bf16 := Memref.whole cc0_scratch1
theorem hA0 : A0.IsWhole := Memref.isWhole_whole _
theorem hA1 : A1.IsWhole := Memref.isWhole_whole _
theorem hA2 : A2.IsWhole := Memref.isWhole_whole _
theorem hA3 : A3.IsWhole := Memref.isWhole_whole _

/-- Where message `k` of ring `r` from `d` is read and written. -/
def src (d : Dev nD) (r : Fin 8) (k : ℕ) : Memref sig .tc .vmem S32x1024 .bf16 := srcM A1 A2 A3 d r k
def dst (d : Dev nD) (r : Fin 8) (k : ℕ) : Memref sig .tc .vmem S32x1024 .bf16 := dstM A1 A2 d r k
/-- Chunk `j` of ring `r` of the result. -/
def outC (r : Fin 8) (j : Fin 16) : Memref sig .tc .vmem S32x1024 .bf16 := outM A1 (chunkOff r j) (chunkOff_inb r j)

theorem src_zero (d : Dev nD) (r : Fin 8) : src d r 0 = seedM A3 r := rfl
theorem src_comm (d : Dev nD) (r : Fin 8) {k : ℕ} (h0 : k ≠ 0) (h : k < 15) : src d r k = commM A2 r (mod15 (k - 1)) := by
  unfold src srcM; rw [if_neg h0, if_pos h]
theorem src_out (d : Dev nD) (r : Fin 8) (g : Fin 15) : src d r (15 + g.val) = outC r (hIdx d r g.val) := by
  unfold src srcM outC; rw [if_neg (by omega), if_neg (by omega)]
  have : mod15 (15 + g.val) = g := Fin.ext (by simp only [mod15]; omega)
  exact outM_congr _ (by rw [this]; exact offSend_eq d r g) _ _
theorem dst_comm (d : Dev nD) (r : Fin 8) {k : ℕ} (h : k < 15) : dst d r k = commM A2 r (mod15 k) := by
  unfold dst dstM; rw [if_pos h]
theorem dst_out (d : Dev nD) (r : Fin 8) (g : Fin 15) : dst d r (15 + g.val) = outC r (hIdx d r g.val) := by
  unfold dst dstM outC; rw [if_neg (by omega)]
  have : mod15 (15 + g.val) = g := Fin.ext (by simp only [mod15]; omega)
  exact outM_congr _ (by rw [this]; exact offSend_eq d r g) _ _
/-- What a device receives in one message it sends in the next. -/
theorem dst_up_src (d : Dev nD) (r : Fin 8) {k : ℕ} (h : k < 14 ∨ 15 ≤ k ∧ k < 29) : dst (up d r) r k = src d r (k + 1) := by
  rcases h with h | ⟨h1, h2⟩
  · rw [dst_comm _ _ (by omega), src_comm _ _ (by omega) (by omega), Nat.add_sub_cancel]
  · obtain ⟨g, rfl⟩ := Nat.exists_eq_add_of_le h1
    have e1 := dst_out (up d r) r ⟨g, by omega⟩
    have e2 := src_out d r ⟨g + 1, by omega⟩
    rw [e1]; rw [show 15 + g + 1 = 15 + (g + 1) from rfl, e2]
    congr 1; exact (hIdx_up d r ⟨g, by omega⟩).symm

def Nb : ℕ := (outC 0 0).view.dmaCredit
theorem Nb_pos : 0 < Nb := View.dmaCredit_pos _ (by decide)
theorem src_credit (d : Dev nD) (r : Fin 8) (k : ℕ) : (srcM A1 A2 A3 d r k).view.dmaCredit = Nb := by
  unfold srcM; split
  · rfl
  · split <;> rfl
theorem dst_credit (d : Dev nD) (r : Fin 8) (k : ℕ) : (dstM A1 A2 d r k).view.dmaCredit = Nb := by
  unfold dstM; split <;> rfl

attribute [irreducible] Nb

/-! ## The semaphores -/

abbrev barS : Sem sig := (SemArray.scalar (sig.barrier 0 rfl) : Sems sig S_).sem
abbrev sS (r : Fin 8) (b : Fin 2) : DmaSem sig := sendS cc0_scratch2 r b
abbrev rS (r : Fin 8) (s : Fin 15) : DmaSem sig := recvS cc0_scratch3 r s
theorem sS_val : ∀ r b, (sS r b).val = 2 + 2 * r.val + b.val := by decide +kernel
theorem rS_val : ∀ r s, (rS r s).val = 18 + 15 * r.val + s.val := by decide +kernel

/-- The semaphores of one device: the barrier, the send ones, the receive ones. -/
abbrev CK : Type := Unit ⊕ ((Fin 8 × Fin 2) ⊕ (Fin 8 × Fin 15))
def csem : CK → SemLoc sig
  | .inl _ => .reg barS
  | .inr (.inl p) => .dma (sS p.1 p.2)
  | .inr (.inr p) => .dma (rS p.1 p.2)
theorem csem_inj : Function.Injective csem := by
  have hd : ∀ a b : DmaSem sig, (SemLoc.dma a : SemLoc sig) = .dma b → a.val = b.val := fun a b h => by cases h; rfl
  rintro (⟨⟩ | ⟨r, b⟩ | ⟨r, s⟩) (⟨⟩ | ⟨r', b'⟩ | ⟨r', s'⟩) h
  · rfl
  · exact absurd h (by simp only [csem]; exact fun h => by cases h)
  · exact absurd h (by simp only [csem]; exact fun h => by cases h)
  · exact absurd h (by simp only [csem]; exact fun h => by cases h)
  · have := hd _ _ h; rw [sS_val, sS_val] at this; dsimp only at this
    have h1 : r = r' := Fin.ext (by omega)
    have h2 : b = b' := Fin.ext (by omega)
    rw [h1, h2]
  · have := hd _ _ h; rw [sS_val, rS_val] at this; omega
  · exact absurd h (by simp only [csem]; exact fun h => by cases h)
  · have := hd _ _ h; rw [sS_val, rS_val] at this; omega
  · have := hd _ _ h; rw [rS_val, rS_val] at this; dsimp only at this
    have h1 : r = r' := Fin.ext (by omega)
    have h2 : s = s' := Fin.ext (by omega)
    rw [h1, h2]
def dec (x : SemLoc sig) : Option CK := preimage? ⟨csem, csem_inj⟩ x
theorem dec_csem (k : CK) : dec (csem k) = some k := preimage?_emb ⟨csem, csem_inj⟩ k

def kcell (p : Dev nD × CK) : GSem nD τ sig := ((p.1 : Thread nD τ), csem p.2)
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]
abbrev barC (c : Dev nD) : GSem nD τ sig := ((c : Thread nD τ), .reg barS)
abbrev sendC (c : Dev nD) (r : Fin 8) (b : Fin 2) : GSem nD τ sig := ((c : Thread nD τ), .dma (sS r b))
abbrev recvC (c : Dev nD) (r : Fin 8) (s : Fin 15) : GSem nD τ sig := ((c : Thread nD τ), .dma (rS r s))
theorem dec_bar : dec (.reg barS) = some (.inl ()) := dec_csem (.inl ())
theorem dec_send (r : Fin 8) (b : Fin 2) : dec (.dma (sS r b)) = some (.inr (.inl (r, b))) := dec_csem (.inr (.inl (r, b)))
theorem dec_recv (r : Fin 8) (s : Fin 15) : dec (.dma (rS r s)) = some (.inr (.inr (r, s))) := dec_csem (.inr (.inr (r, s)))

/-! ## The messages on the send semaphores -/

/-- The round of its send semaphore that message `k` completes in, and back. -/
def sndRnd (k : ℕ) : ℕ := if k < 15 then k / 2 else if slotN k = 0 then 8 + (k - 15) / 2 else 7 + (k - 15) / 2
def msgOf (b : Fin 2) (ρ : ℕ) : ℕ :=
  if b = 0 then (if ρ < 8 then 2 * ρ else 15 + 2 * (ρ - 8)) else (if ρ < 7 then 2 * ρ + 1 else 16 + 2 * (ρ - 7))
/-- How many messages a send semaphore completes. -/
def sndLen (b : Fin 2) : ℕ := if b = 0 then 16 else 14
theorem msgOf_sndRnd : ∀ k : Fin 30, msgOf (slotOf k.val) (sndRnd k.val) = k.val := by decide +kernel
theorem sndRnd_lt : ∀ k : Fin 30, sndRnd k.val < sndLen (slotOf k.val) := by decide +kernel
theorem sndRnd_prev : ∀ k : Fin 30, 2 ≤ k.val → sndRnd k.val = sndRnd (prevOf k.val) + 1 := by decide +kernel
theorem sndRnd_small : ∀ k : Fin 2, sndRnd k.val = 0 := by decide +kernel

/-! ## What is handed over -/

section Pay
variable (xs : Dev nD → S4096x1024.Idx → Elt F .bf16)

/-- The memory of chunk-sized memref `M` on `d`, holding `X`. -/
abbrev own (d : Dev nD) (M : Memref sig .tc .vmem S32x1024 .bf16) (X : FVec F S32x1024 .bf16) : sProp 𝕄 := ownsTc d M fullShare X

/-- The first `p` receive semaphores (at most all fifteen) of ring `r` of `c` are past their first message. -/
def Facts (c : Dev nD) (r : Fin 8) (p : ℕ) : sProp 𝕄 := bigSep (Finset.range (min p 15)) fun i => reached ER (recvC c r (mod15 i)) 1
omit [FloatOps F] in
instance Facts_persistent (c : Dev nD) (r : Fin 8) (p : ℕ) : BI.Persistent (Facts (F := F) c r p) := by unfold Facts; infer_instance
omit [FloatOps F] in
instance Facts_storable (c : Dev nD) (r : Fin 8) (p : ℕ) : BI.Storable (upEmb : UEmb _ 𝕄) (Facts (F := F) c r p) := by unfold Facts; infer_instance

/-- What `e` gets at its barrier: the places it will write, on its right neighbour (`false`) or its left one (`true`). -/
def barPay (e : Dev nD) (b : Bool) : sProp 𝕄 :=
  bigSep (Finset.univ.filter fun r : Fin 8 => decide (r.val < 4) = !b) fun r =>
    bigSep (Finset.range 30) fun k => iprop(∃ X, own (F := F) (dn e r) (dst e r k) X)
/-- What a device gets back when message `k` has left. -/
def sendPay (d : Dev nD) (r : Fin 8) (k : ℕ) : sProp 𝕄 := own d (src d r k) (msgV xs k r d)
/-- What a device gets when message `k` has arrived: its place, and how far the other ring's receives at the sender are. -/
def recvPay (d : Dev nD) (r : Fin 8) (k : ℕ) : sProp 𝕄 :=
  iprop(own d (dst (up d r) r k) (msgV xs k r (up d r)) ∗ Facts (up d r) (pair r) (k - 1))
instance sendPay_storable (d r k) : BI.Storable (upEmb : UEmb _ 𝕄) (sendPay xs d r k) := by unfold sendPay; infer_instance
instance recvPay_storable (d r k) : BI.Storable (upEmb : UEmb _ 𝕄) (recvPay xs d r k) := by unfold recvPay; infer_instance
omit [FloatOps F] in
instance barPay_storable (d b) : BI.Storable (upEmb : UEmb _ 𝕄) (barPay (F := F) d b) := by unfold barPay; infer_instance

def dutiesK : Option CK → ℕ → Finset Bool
  | some (.inl _), ρ => if ρ = 0 then Finset.univ else ∅
  | some (.inr (.inl p)), ρ => if ρ < sndLen p.2 then {false} else ∅
  | some (.inr (.inr _)), ρ => if ρ < 2 then {false} else ∅
  | none, _ => ∅
def amountK : Option CK → ℕ
  | some (.inl _) => 1
  | _ => Nb
def payK (d : Dev nD) : Option CK → ℕ → Bool → sProp 𝕄
  | some (.inl _), _, b => barPay d b
  | some (.inr (.inl p)), ρ, _ => sendPay xs d p.1 (msgOf p.2 ρ)
  | some (.inr (.inr p)), ρ, _ => recvPay xs d p.1 (p.2.val + 15 * ρ)
  | none, _, _ => iprop(emp)

/-- The schedule of all the semaphores. -/
def Rd : Rounds.Schedule (GSem nD τ sig) Bool 𝕄 where
  duties g ρ := dutiesK (dec g.2) ρ
  unitless _ := False
  amount g _ _ := amountK (dec g.2)
  payload g ρ b := payK xs g.1.1 (dec g.2) ρ b
  amount_pos g _ _ _ := by
    rcases dec g.2 with _ | (_ | _ | _)
    · exact Nb_pos
    · exact Nat.one_pos
    · exact Nb_pos
    · exact Nb_pos

instance Rd_storable (g : GSem nD τ sig) (ρ : ℕ) (b : Bool) : BI.Storable (upEmb : UEmb _ 𝕄) ((Rd xs).payload g ρ b) := by
  show BI.Storable upEmb (payK xs g.1.1 (dec g.2) ρ b)
  rcases dec g.2 with _ | (_ | _ | _) <;> unfold payK <;> infer_instance

theorem duties_bar (c : Dev nD) : (Rd xs).duties (barC c) 0 = Finset.univ := by
  show dutiesK (dec (.reg barS)) 0 = _; rw [dec_bar]; rfl
theorem duties_send (c : Dev nD) (r : Fin 8) (b : Fin 2) (ρ : ℕ) : (Rd xs).duties (sendC c r b) ρ = if ρ < sndLen b then {false} else ∅ := by
  show dutiesK (dec (.dma (sS r b))) ρ = _; rw [dec_send]; rfl
theorem duties_recv (c : Dev nD) (r : Fin 8) (s : Fin 15) (ρ : ℕ) : (Rd xs).duties (recvC c r s) ρ = if ρ < 2 then {false} else ∅ := by
  show dutiesK (dec (.dma (rS r s))) ρ = _; rw [dec_recv]; rfl
theorem duties_bar_later (c : Dev nD) (ρ : ℕ) (h : 1 ≤ ρ) : (Rd xs).duties (barC c) ρ = ∅ := by
  show dutiesK (dec (.reg barS)) ρ = _; rw [dec_bar]; exact if_neg (by omega)
theorem amount_bar (c : Dev nD) (ρ : ℕ) (b : Bool) : (Rd xs).amount (barC c) ρ b = 1 := by
  show amountK (dec (.reg barS)) = _; rw [dec_bar]; rfl
theorem amount_send (c : Dev nD) (r : Fin 8) (b : Fin 2) (ρ : ℕ) (x : Bool) : (Rd xs).amount (sendC c r b) ρ x = Nb := by
  show amountK (dec (.dma (sS r b))) = _; rw [dec_send]; rfl
theorem amount_recv (c : Dev nD) (r : Fin 8) (s : Fin 15) (ρ : ℕ) (x : Bool) : (Rd xs).amount (recvC c r s) ρ x = Nb := by
  show amountK (dec (.dma (rS r s))) = _; rw [dec_recv]; rfl
theorem payload_bar (c : Dev nD) (ρ : ℕ) (b : Bool) : (Rd xs).payload (barC c) ρ b = barPay c b := by
  show payK xs c (dec (.reg barS)) ρ b = _; rw [dec_bar]; rfl
theorem payload_send (c : Dev nD) (r : Fin 8) (b : Fin 2) (ρ : ℕ) (x : Bool) : (Rd xs).payload (sendC c r b) ρ x = sendPay xs c r (msgOf b ρ) := by
  show payK xs c (dec (.dma (sS r b))) ρ x = _; rw [dec_send]; rfl
theorem payload_recv (c : Dev nD) (r : Fin 8) (s : Fin 15) (ρ : ℕ) (x : Bool) : (Rd xs).payload (recvC c r s) ρ x = recvPay xs c r (s.val + 15 * ρ) := by
  show payK xs c (dec (.dma (rS r s))) ρ x = _; rw [dec_recv]; rfl

theorem duties_sendk (c : Dev nD) (r : Fin 8) {k : ℕ} (hk : k < 30) : (Rd xs).duties (sendC c r (slotOf k)) (sndRnd k) = {false} := by
  rw [duties_send, if_pos (sndRnd_lt ⟨k, hk⟩)]
theorem duties_recvk (c : Dev nD) (r : Fin 8) {k : ℕ} (hk : k < 30) : (Rd xs).duties (recvC c r (mod15 k)) (k / 15) = {false} := by
  rw [duties_recv, if_pos (by omega)]
theorem payload_sendk (c : Dev nD) (r : Fin 8) {k : ℕ} (hk : k < 30) (x : Bool) :
    (Rd xs).payload (sendC c r (slotOf k)) (sndRnd k) x = sendPay xs c r k := by
  rw [payload_send, msgOf_sndRnd ⟨k, hk⟩]
theorem payload_recvk (c : Dev nD) (r : Fin 8) (k : ℕ) (x : Bool) :
    (Rd xs).payload (recvC c r (mod15 k)) (k / 15) x = recvPay xs c r k := by
  rw [payload_recv]; congr 1; exact Nat.mod_add_div k 15

theorem expect_bar (c : Dev nD) : (Rd xs).expect (barC c) 0 = 2 := by
  unfold Schedule.expect Schedule.amountOf
  rw [duties_bar, Finset.sum_congr rfl fun d _ => amount_bar xs c 0 d, Finset.sum_const, Finset.card_univ, Fintype.card_bool, smul_eq_mul]
theorem expect_sendk (c : Dev nD) (r : Fin 8) {k : ℕ} (hk : k < 30) : (Rd xs).expect (sendC c r (slotOf k)) (sndRnd k) = Nb := by
  unfold Schedule.expect Schedule.amountOf; rw [duties_sendk xs c r hk, Finset.sum_singleton, amount_send]
theorem expect_recvk (c : Dev nD) (r : Fin 8) {k : ℕ} (hk : k < 30) : (Rd xs).expect (recvC c r (mod15 k)) (k / 15) = Nb := by
  unfold Schedule.expect Schedule.amountOf; rw [duties_recvk xs c r hk, Finset.sum_singleton, amount_recv]
theorem rest_bar (c : Dev nD) : bigSep ((Rd xs).duties (barC c) 0 \ ∅) (fun d => (Rd xs).payload (barC c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_sendk (c : Dev nD) (r : Fin 8) {k : ℕ} (hk : k < 30) :
    bigSep ((Rd xs).duties (sendC c r (slotOf k)) (sndRnd k) \ ∅) (fun d => (Rd xs).payload (sendC c r (slotOf k)) (sndRnd k) d) = sendPay xs c r k := by
  rw [Finset.sdiff_empty, duties_sendk xs c r hk, bigSep_singleton, payload_sendk xs c r hk]
theorem rest_recvk (c : Dev nD) (r : Fin 8) {k : ℕ} (hk : k < 30) :
    bigSep ((Rd xs).duties (recvC c r (mod15 k)) (k / 15) \ ∅) (fun d => (Rd xs).payload (recvC c r (mod15 k)) (k / 15) d) = recvPay xs c r k := by
  rw [Finset.sdiff_empty, duties_recvk xs c r hk, bigSep_singleton, payload_recvk]

end Pay

/-! ## What is owed, and the levels -/

/-- The receives that message `k` of ring `r` from `c` completes. -/
def owe1 (c : Dev nD) (r : Fin 8) (k : ℕ) : CellTallies nD τ sig ℕ := tallyAt (recvC (dn c r) r (mod15 k)) (k / 15) Nb
/-- What `c` owes when ring `r` has sent `p r` messages. -/
def oweR (c : Dev nD) (p : Fin 8 → ℕ) : CellTallies nD τ sig ℕ := ∑ r : Fin 8, ∑ k ∈ Finset.Ico (p r) 30, owe1 c r k
/-- What `c` owes at launch. -/
def owe0 (c : Dev nD) : CellTallies nD τ sig ℕ := oweR c (fun _ => 0) + tallyAt (barC (rt c)) 0 1 + tallyAt (barC (lf c)) 0 1

def L (g : GSem nD τ sig) : Finset ℕ := if g.1.2 = .tc then Finset.range 16 else ∅
def lvK : Option CK → ℕ → ℕ
  | some (.inl _), _ => 1
  | some (.inr (.inr p)), ι => 2 + p.2.val + 15 * ι
  | _, _ => 0
def lv (g : GSem nD τ sig) (ι : ℕ) : ℕ := lvK (dec g.2) ι
theorem L_of_ne (g : GSem nD τ sig) (h : g.1.2 ≠ .tc) : L g = ∅ := if_neg h
theorem L_tc (c : Dev nD) (sm : SemLoc sig) : L ((c : Thread nD τ), sm) = Finset.range 16 := if_pos rfl
theorem lv_recv (c : Dev nD) (r : Fin 8) (s : Fin 15) (ι : ℕ) : lv (recvC c r s) ι = 2 + s.val + 15 * ι := by
  show lvK (dec (.dma (rS r s))) ι = _; rw [dec_recv]; rfl
theorem lv_recvk (c : Dev nD) (r : Fin 8) (k : ℕ) : lv (recvC c r (mod15 k)) (k / 15) = 2 + k := by
  rw [lv_recv]; show 2 + k % 15 + 15 * (k / 15) = 2 + k; omega
theorem lv_send (c : Dev nD) (r : Fin 8) (b : Fin 2) (ι : ℕ) : lv (sendC c r b) ι = 0 := by
  show lvK (dec (.dma (sS r b))) ι = _; rw [dec_send]; rfl
theorem lv_bar (c : Dev nD) (ι : ℕ) : lv (barC c) ι = 1 := by
  show lvK (dec (.reg barS)) ι = _; rw [dec_bar]; rfl

theorem owe1_pos {c : Dev nD} {r : Fin 8} {k : ℕ} {g : GSem nD τ sig} {u : ℕ} (h : 0 < owe1 c r k g u) :
    g = recvC (dn c r) r (mod15 k) ∧ u = k / 15 := by
  unfold owe1 at h; rw [tallyAt_apply] at h
  by_contra hn; rw [if_neg hn] at h; exact Nat.lt_irrefl 0 h
theorem oweR_pos {c : Dev nD} {p : Fin 8 → ℕ} {g : GSem nD τ sig} {u : ℕ} (h : 0 < oweR c p g u) :
    ∃ r k, p r ≤ k ∧ k < 30 ∧ g = recvC (dn c r) r (mod15 k) ∧ u = k / 15 := by
  unfold oweR at h
  rw [Finset.sum_apply, Finsupp.finset_sum_apply] at h
  obtain ⟨r, -, hr⟩ := Finset.exists_ne_zero_of_sum_ne_zero (Nat.pos_iff_ne_zero.mp h)
  rw [Finset.sum_apply, Finsupp.finset_sum_apply] at hr
  obtain ⟨k, hk, hr⟩ := Finset.exists_ne_zero_of_sum_ne_zero hr
  rw [Finset.mem_Ico] at hk
  exact ⟨r, k, hk.1, hk.2, owe1_pos (Nat.pos_of_ne_zero hr)⟩
/-- Sending message `p r` of ring `r` pays its receive. -/
theorem oweR_send (c : Dev nD) (p : Fin 8 → ℕ) (r : Fin 8) (h : p r < 30) :
    oweR c p = oweR c (Function.update p r (p r + 1)) + owe1 c r (p r) := by
  unfold oweR
  rw [← Finset.add_sum_erase _ _ (Finset.mem_univ r), ← Finset.add_sum_erase (Finset.univ) (fun r' => ∑ k ∈ Finset.Ico (Function.update p r (p r + 1) r') 30, owe1 c r' k) (Finset.mem_univ r)]
  have e1 : Finset.Ico (p r) 30 = insert (p r) (Finset.Ico (p r + 1) 30) := by
    ext k; rw [Finset.mem_insert, Finset.mem_Ico, Finset.mem_Ico]; omega
  have e2 : ∀ r' ∈ Finset.univ.erase r, ∑ k ∈ Finset.Ico (Function.update p r (p r + 1) r') 30, owe1 c r' k = ∑ k ∈ Finset.Ico (p r') 30, owe1 c r' k :=
    fun r' hr' => by rw [Function.update_of_ne (Finset.ne_of_mem_erase hr')]
  rw [Finset.sum_congr rfl e2, Function.update_self, e1, Finset.sum_insert (by rw [Finset.mem_Ico]; omega), add_assoc, add_comm]

omit [FloatOps F] in
/-- A wait on a cell below all that is owed. -/
theorem mayWait_of (c : Dev nD) (sm : SemLoc sig) (ι : ℕ) (p : Fin 8 → ℕ) (hι : ι < 16)
    (hl : ∀ r, lv ((c : Thread nD τ), sm) ι < 2 + p r) :
    (levAts L lv : sProp 𝕄) ⊢ MayWait (c : Thread nD τ) sm ι (oweR c p) :=
  MayOwe.of_cut (L := L) (lev := lv) (lv ((c : Thread nD τ), sm) ι)
    (fun q hq => by rw [Finset.mem_singleton.mp hq, L_tc]; exact Finset.mem_range.mpr hι)
    (fun g u hg => by
      obtain ⟨r, k, h1, h2, rfl, rfl⟩ := oweR_pos hg
      rw [L_tc]; exact Finset.mem_range.mpr (by omega))
    (fun q hq => by rw [Finset.mem_singleton.mp hq])
    (fun g u hg => by
      obtain ⟨r, k, h1, h2, rfl, rfl⟩ := oweR_pos hg
      rw [lv_recvk]; have := hl r; omega)
omit [FloatOps F] in
theorem mayWait_recv (c : Dev nD) (r : Fin 8) (k : ℕ) (p : Fin 8 → ℕ) (hk : k < 30) (hl : ∀ r', k < p r') :
    (levAts L lv : sProp 𝕄) ⊢ MayWait (c : Thread nD τ) (.dma (rS r (mod15 k))) (k / 15) (oweR c p) :=
  mayWait_of c _ _ p (by omega) fun r' => by have := hl r'; have e := lv_recvk c r k; unfold recvC at e; omega
omit [FloatOps F] in
theorem mayWait_send (c : Dev nD) (r : Fin 8) (b : Fin 2) (ι : ℕ) (p : Fin 8 → ℕ) (hι : ι < 16) :
    (levAts L lv : sProp 𝕄) ⊢ MayWait (c : Thread nD τ) (.dma (sS r b)) ι (oweR c p) :=
  mayWait_of c _ _ p hι fun r' => by have e := lv_send c r b ι; unfold sendC at e; omega
omit [FloatOps F] in
theorem mayWait_bar (c : Dev nD) (p : Fin 8 → ℕ) :
    (levAts L lv : sProp 𝕄) ⊢ MayWait (c : Thread nD τ) (.reg barS) 0 (oweR c p) :=
  mayWait_of c _ _ p (by omega) fun r' => by have e := lv_bar c 0; unfold barC at e; omega
omit [FloatOps F] in
/-- The staging's waits, at launch and at the end. -/
theorem mayWait_stage (c : Dev nD) (q : DmaSem sig) (hq : q.val < 2) (O : CellTallies nD τ sig ℕ) (hO : O = owe0 c ∨ O = 0) :
    (levAts L lv : sProp 𝕄) ⊢ MayWait (c : Thread nD τ) (.dma q) 0 O := by
  have hdec : dec (.dma q) = none := preimage?_eq_none (by
    have hd : ∀ a b : DmaSem sig, (SemLoc.dma a : SemLoc sig) = .dma b → a.val = b.val := fun a b h => by cases h; rfl
    rintro (⟨⟩ | ⟨r, b⟩ | ⟨r, s⟩) h
    · cases h
    · have := hd _ _ h; rw [sS_val] at this; omega
    · have := hd _ _ h; rw [rS_val] at this; omega)
  rcases hO with rfl | rfl
  · have key : ∀ {g : GSem nD τ sig} {u : ℕ}, 0 < owe0 c g u →
        (∃ r k, k < 30 ∧ g = recvC (dn c r) r (mod15 k) ∧ u = k / 15) ∨ (g = barC (rt c) ∧ u = 0) ∨ (g = barC (lf c) ∧ u = 0) := fun {g u} h => by
      unfold owe0 at h
      rw [Pi.add_apply, Finsupp.add_apply, Pi.add_apply, Finsupp.add_apply, tallyAt_apply, tallyAt_apply] at h
      by_cases h1 : g = barC (rt c) ∧ u = 0
      · exact .inr (.inl h1)
      by_cases h2 : g = barC (lf c) ∧ u = 0
      · exact .inr (.inr h2)
      rw [if_neg h1, if_neg h2] at h
      obtain ⟨r, k, -, h⟩ := oweR_pos (p := fun _ => 0) (c := c) (g := g) (u := u) (by omega)
      exact .inl ⟨r, k, h⟩
    refine MayOwe.of_cut (L := L) (lev := lv) 0 (fun p hp => by rw [Finset.mem_singleton.mp hp, L_tc]; exact Finset.mem_range.mpr (by show 0 < 16; decide))
      (fun g u hg => by
        rcases key hg with ⟨r, k, h, rfl, rfl⟩ | ⟨rfl, rfl⟩ | ⟨rfl, rfl⟩ <;> rw [L_tc] <;> exact Finset.mem_range.mpr (by omega))
      (fun p hp => by rw [Finset.mem_singleton.mp hp]; show lvK (dec (.dma q)) 0 ≤ 0; rw [hdec]; exact Nat.le_refl _)
      (fun g u hg => by
        rcases key hg with ⟨r, k, h, rfl, rfl⟩ | ⟨rfl, rfl⟩ | ⟨rfl, rfl⟩
        · rw [lv_recvk]; omega
        · rw [lv_bar]; omega
        · rw [lv_bar]; omega)
  · rw [MayWait_zero]; iintro -; iempintro

end Cert.KernelIdeal.Gen
-- ==== Proof.Ops.lean ====
/- The operations of a stage, each by the rule of its effects. -/
module

public import proofs.«01_k».proof.Proof.Protocol

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The weakest precondition of device `c`'s program. -/
abbrev WP (c : Dev nD) (K : PB F) (Q : PUnit.{1} → sProp 𝕄) : sProp 𝕄 :=
  wp frame (wpE (defs₀ (F := F)) 𝒱₀ (c : Thread nD τ) none) Set.univ K Q
/-- What `c` owes, whatever waits are recorded. -/
def owesW (c : Dev nD) (O : CellTallies nD τ sig ℕ) : sProp 𝕄 := iprop(∃ W, owes (c : Thread nD τ) O W)

/-! ## Loads and stores -/

section Mem
variable (c : Dev nD) {Q : PUnit.{1} → sProp (MT nD τ sig ℕ (Elt F) ℕ UU ℕ)}

omit [FloatOps F] in
theorem hz2 : (![0, 0] : Fin 2 → ℕ) = fun _ => 0 := funext fun a => by fin_cases a <;> rfl

omit [FloatOps F] in
theorem fullR_emb (i : S32x1024.Idx) : fullR.emb i = i := by
  funext a; apply Fin.ext
  show (![0, 0] : Fin 2 → ℕ) a + 1 * (i a).val = (i a).val
  rw [hz2]; simp

/-- A chunk of the input loaded. -/
theorem wp_load_x (x : S4096x1024.Idx → Elt F .bf16) (off : Fin 2 → ℕ) (h h') (K : FVec F S32x1024 .bf16 → PB F) :
    ownsTc c A0 fullShare x
      ⊢ iprop(((ownsTc c A0 fullShare x : sProp 𝕄) -∗ WP c (K fun i => x ((chunkR off h).emb i)) Q)
          -∗ WP c (opLoad (outM A0 off h) fullR h' K) Q) := by
  unfold ownsTc owns
  iintro ⟨%f, %hf, Hx⟩ Hk
  iapply (wp_load 𝒱₀ (c : Thread nD τ) none Set.univ (m := outM A0 off h) (r := fullR.toLoadRect) (S := A0.view.set) (f := f)
    (by rw [View.set_whole]; exact Finset.subset_univ _)) $$ Hx
  iintro Hx
  have e : (outM A0 off h).view.readAt (Elt F) fullR.toLoadRect f = fun i => x ((chunkR off h).emb i) := by
    funext i
    show A0.view.read (Elt F) f ((chunkR off h).emb (fullR.emb i)) = _
    rw [hf, fullR_emb]
  rw [e]
  iapply Hk
  iexists f; isplitr; · (ipureintro; exact hf)
  iexact Hx

/-- A place of the received sums loaded. -/
theorem wp_load_comm (r : Fin 8) (s : Fin 15) (X : FVec F S32x1024 .bf16) (h') (K : FVec F S1x1x32x1024 .bf16 → PB F) :
    own c (commM A2 r s) X
      ⊢ iprop((∀ v, ⌜shapeCast S32x1024 v shapeCasts_S1x1x32x1024_S32x1024 = X⌝ -∗ own (F := F) c (commM A2 r s) X -∗ WP c (K v) Q)
          -∗ WP c (opLoad A2 (commR r s) h' K) Q) := by
  unfold own ownsTc owns
  iintro ⟨%f, %hf, Hx⟩ Hk
  iapply (wp_load_rect 𝒱₀ (c : Thread nD τ) none Set.univ (m := A2) (r := commR r s) (S := (commM A2 r s).view.set) (f := f)
    (View.set_reshape _ _).ge) $$ Hx
  iintro Hx
  iapply Hk $$ %((A2.access (commR r s)).read (Elt F) f) %hf
  iexists f; isplitr; · (ipureintro; exact hf)
  iexact Hx

/-- A place of the received sums stored. -/
theorem wp_store_comm (r : Fin 8) (s : Fin 15) (X w : FVec F S32x1024 .bf16) (hx hm) (K : PUnit → PB F) :
    own c (commM A2 r s) X
      ⊢ iprop((own (F := F) c (commM A2 r s) w -∗ WP c (K ⟨⟩) Q)
          -∗ WP c (.op (.store A2 (commR r s) (shapeCast S1x1x32x1024 w shapeCasts_S32x1024_S1x1x32x1024 : FVec F S1x1x32x1024 .bf16) Finset.univ hx hm) K) Q) := by
  unfold own ownsTc owns
  iintro ⟨%f, %hf, Hx⟩ Hk
  iapply (wp_store 𝒱₀ (c : Thread nD τ) none Set.univ (m := A2) (r := commR r s) (Mk := Finset.univ) (S := (commM A2 r s).view.set) (f := f)
    (View.set_reshape _ _).ge) $$ Hx
  iintro Hx
  iapply Hk
  iexists _; isplitr [Hx]; rotate_left; · iexact Hx
  ipureintro
  show shapeCast S32x1024 ((A2.access (commR r s)).read (Elt F) ((A2.access (commR r s)).write (Elt F) f _ Finset.univ)) shapeCasts_S1x1x32x1024_S32x1024 = w
  rw [View.read_write_univ]
  exact shapeCast_shapeCast _ _ _

/-- A place of the seeds loaded, whatever it holds. -/
theorem wp_load_seed (r : Fin 8) (X : FVec F S32x1024 .bf16) (h') (K : FVec F S1x32x1024 .bf16 → PB F) :
    own c (seedM A3 r) X
      ⊢ iprop((∀ v, own (F := F) c (seedM A3 r) X -∗ WP c (K v) Q)
          -∗ WP c (opLoad A3 (seedR r) h' K) Q) := by
  unfold own ownsTc owns
  iintro ⟨%f, %hf, Hx⟩ Hk
  iapply (wp_load_rect 𝒱₀ (c : Thread nD τ) none Set.univ (m := A3) (r := seedR r) (S := (seedM A3 r).view.set) (f := f)
    (View.set_reshape _ _).ge) $$ Hx
  iintro Hx
  iapply Hk
  iexists f; isplitr; · (ipureintro; exact hf)
  iexact Hx

theorem wp_store_seed (r : Fin 8) (X w : FVec F S32x1024 .bf16) (hx hm) (K : PUnit → PB F) :
    own c (seedM A3 r) X
      ⊢ iprop((own (F := F) c (seedM A3 r) w -∗ WP c (K ⟨⟩) Q)
          -∗ WP c (.op (.store A3 (seedR r) (paySeed w) Finset.univ hx hm) K) Q) := by
  unfold own ownsTc owns
  iintro ⟨%f, %hf, Hx⟩ Hk
  iapply (wp_store 𝒱₀ (c : Thread nD τ) none Set.univ (m := A3) (r := seedR r) (Mk := Finset.univ) (S := (seedM A3 r).view.set) (f := f)
    (View.set_reshape _ _).ge) $$ Hx
  iintro Hx
  iapply Hk
  iexists _; isplitr [Hx]; rotate_left; · iexact Hx
  ipureintro
  show shapeCast S32x1024 ((A3.access (seedR r)).read (Elt F) ((A3.access (seedR r)).write (Elt F) f _ Finset.univ)) _ = w
  rw [View.read_write_univ]
  exact shapeCast_paySeed _

/-- A chunk of the result loaded, whatever it holds. -/
theorem wp_load_out (off : Fin 2 → ℕ) (h) (X : FVec F S32x1024 .bf16) (h') (K : FVec F S32x1024 .bf16 → PB F) :
    own c (outM A1 off h) X
      ⊢ iprop((∀ v, own (F := F) c (outM A1 off h) X -∗ WP c (K v) Q)
          -∗ WP c (opLoad A1 (chunkR off h) h' K) Q) := by
  unfold own ownsTc owns
  iintro ⟨%f, %hf, Hx⟩ Hk
  iapply (wp_load_rect 𝒱₀ (c : Thread nD τ) none Set.univ (m := A1) (r := chunkR off h) (S := (outM A1 off h).view.set) (f := f)
    subset_rfl) $$ Hx
  iintro Hx
  iapply Hk
  iexists f; isplitr; · (ipureintro; exact hf)
  iexact Hx

theorem wp_store_out (off : Fin 2 → ℕ) (h) (X w : FVec F S32x1024 .bf16) (hx hm) (K : PUnit → PB F) :
    own c (outM A1 off h) X
      ⊢ iprop((own (F := F) c (outM A1 off h) w -∗ WP c (K ⟨⟩) Q)
          -∗ WP c (.op (.store A1 (chunkR off h) w Finset.univ hx hm) K) Q) := by
  unfold own ownsTc owns
  iintro ⟨%f, %hf, Hx⟩ Hk
  iapply (wp_store 𝒱₀ (c : Thread nD τ) none Set.univ (m := A1) (r := chunkR off h) (Mk := Finset.univ) (S := (outM A1 off h).view.set) (f := f)
    subset_rfl) $$ Hx
  iintro Hx
  iapply Hk
  iexists _; isplitr [Hx]; rotate_left; · iexact Hx
  ipureintro
  show (A1.access (chunkR off h)).read (Elt F) ((A1.access (chunkR off h)).write (Elt F) f _ Finset.univ) = w
  exact View.read_write_univ _ _

end Mem

/-! ## The three kinds of local work -/

section Local
variable (xs : Dev nD → S4096x1024.Idx → Elt F .bf16) (c : Dev nD) {Q : PUnit.{1} → sProp (MT nD τ sig ℕ (Elt F) ℕ UU ℕ)}

abbrev ownX : sProp 𝕄 := ownsTc c A0 fullShare (xs c)

theorem xch_of {c : Dev nD} {r : Fin 8} {j : Fin 16} {off : Fin 2 → ℕ} (e : off = chunkOff r j) (h) :
    (fun i : S32x1024.Idx => xs c ((chunkR off h).emb i)) = xch xs c r j := by subst e; rfl

theorem wp_opSeed (r : Fin 8) (K : PB F) :
    iprop(ownX xs c ∗ ∃ X, own (F := F) c (src c r 0) X)
      ⊢ iprop((ownX xs c -∗ own c (src c r 0) (msgV xs 0 r c) -∗ WP c K Q) -∗ WP c (opSeed A0 A3 hA3 c r K) Q) := by
  rw [src_zero]
  iintro ⟨Hx, %X, Hs⟩ Hk
  unfold opSeed
  iapply (wp_load_x c (xs c)) $$ Hx
  iintro Hx
  iapply (wp_load_seed c r X) $$ Hs
  iintro %v Hs
  iapply (wp_store_seed c r X) $$ Hs
  iintro Hs
  rw [xch_of xs (c := c) (offSeed_eq c r) (offSeed_inb c r)]
  iapply Hk $$ Hx
  iexact Hs

theorem wp_opAdd (r : Fin 8) {s : ℕ} (hs : s < 14) (K : PB F) :
    iprop(ownX xs c ∗ own (F := F) c (src c r (s + 1)) (msgV xs s r (up c r)))
      ⊢ iprop((ownX xs c -∗ own c (src c r (s + 1)) (msgV xs (s + 1) r c) -∗ WP c K Q) -∗ WP c (opAdd A0 A2 hA2 c r (mod15 s) K) Q) := by
  rw [src_comm c r (by omega) (by omega), Nat.add_sub_cancel]
  iintro ⟨Hx, Hs⟩ Hk
  unfold opAdd
  iapply (wp_load_comm c r (mod15 s)) $$ Hs
  iintro %v %hv Hs
  iapply (wp_load_x c (xs c)) $$ Hx
  iintro Hx
  iapply (wp_load_comm c r (mod15 s)) $$ Hs
  iintro %v' %hv' Hs
  iapply (wp_store_comm c r (mod15 s)) $$ Hs
  iintro Hs
  rw [sumOf_eq _ _ _ hv, xch_of xs (c := c) (offAdd_eq c r (mod15 s)) (offAdd_inb c r (mod15 s)), msgV_add xs hs, show (mod15 s).val = s from Nat.mod_eq_of_lt (by omega)]
  iapply Hk $$ Hx
  iexact Hs

theorem wp_opOwn (r : Fin 8) (K : PB F) :
    iprop(ownX xs c ∗ own (F := F) c (dst (up c r) r 14) (msgV xs 14 r (up c r)) ∗ ∃ X, own (F := F) c (src c r 15) X)
      ⊢ iprop((ownX xs c -∗ own c (dst (up c r) r 14) (msgV xs 14 r (up c r)) -∗ own c (src c r 15) (msgV xs 15 r c) -∗ WP c K Q)
          -∗ WP c (opOwn A0 A1 hA1 A2 c r K) Q) := by
  rw [dst_comm _ r (by omega : 14 < 15), show mod15 14 = (14 : Fin 15) from rfl,
    show src c r 15 = outM A1 (offOwn c r) (offOwn_inb c r) from outM_congr _ (offOwn_eq c r).symm _ _]
  iintro ⟨Hx, Hs, %X, Ho⟩ Hk
  unfold opOwn
  iapply (wp_load_comm c r 14) $$ Hs
  iintro %v %hv Hs
  iapply (wp_load_x c (xs c)) $$ Hx
  iintro Hx
  iapply (wp_load_out c _ _ X) $$ Ho
  iintro %v' Ho
  iapply (wp_store_out c _ _ X) $$ Ho
  iintro Ho
  unfold payOut
  rw [sumOf_eq _ _ _ hv, xch_of xs (c := c) (offAdd_eq c r 14) (offAdd_inb c r 14), msgV_own xs]
  iapply Hk $$ Hx Hs
  iexact Ho

end Local

/-! ## Sends and waits -/

section Talk
variable (xs : Dev nD → S4096x1024.Idx → Elt F .bf16) (κ : Dev nD × CK → ℕ) (c : Dev nD) {Q : PUnit.{1} → sProp (MT nD τ sig ℕ (Elt F) ℕ UU ℕ)}

/-- What never changes: the invariants of all semaphores, that each began, and the levels. -/
def Ctx : sProp 𝕄 :=
  iprop((bigSep Finset.univ fun p : Dev nD × CK => iprop(cellInv ER (Rd xs) (κ p) (kcell p) ∗ reached ER (kcell p) 0)) ∗ levAts L lv)
instance Ctx_persistent : BI.Persistent (Ctx xs κ) := by unfold Ctx; infer_instance

theorem Ctx_cell (p : Dev nD × CK) : Ctx xs κ ⊢ iprop(cellInv ER (Rd xs) (κ p) (kcell p) ∗ reached ER (kcell p) 0) := by
  unfold Ctx
  exact (BI.sep_and.trans BI.and_elimL).trans (bigSep_elim (Finset.mem_univ p))
theorem Ctx_send (c : Dev nD) (r : Fin 8) (b : Fin 2) :
    Ctx xs κ ⊢ iprop(cellInv ER (Rd xs) (κ (c, .inr (.inl (r, b)))) (sendC c r b) ∗ reached ER (sendC c r b) 0) := Ctx_cell xs κ (c, .inr (.inl (r, b)))
theorem Ctx_recv (c : Dev nD) (r : Fin 8) (s : Fin 15) :
    Ctx xs κ ⊢ iprop(cellInv ER (Rd xs) (κ (c, .inr (.inr (r, s)))) (recvC c r s) ∗ reached ER (recvC c r s) 0) := Ctx_cell xs κ (c, .inr (.inr (r, s)))
theorem Ctx_bar (c : Dev nD) : Ctx xs κ ⊢ iprop(cellInv ER (Rd xs) (κ (c, .inl ())) (barC c) ∗ reached ER (barC c) 0) := Ctx_cell xs κ (c, .inl ())
theorem Ctx_mayRecv (r : Fin 8) (k : ℕ) (p : Fin 8 → ℕ) (hk : k < 30) (hl : ∀ r', k < p r') :
    Ctx xs κ ⊢ (MayWait (c : Thread nD τ) (.dma (rS r (mod15 k))) (k / 15) (oweR c p) : sProp 𝕄) := by
  have h : Ctx xs κ ⊢ (levAts L lv : sProp 𝕄) := by
    unfold Ctx; iintro ⟨-, H⟩; iexact H
  exact h.trans (mayWait_recv (F := F) c r k p hk hl)
theorem Ctx_maySend (r : Fin 8) (b : Fin 2) (ι : ℕ) (p : Fin 8 → ℕ) (hι : ι < 16) :
    Ctx xs κ ⊢ (MayWait (c : Thread nD τ) (.dma (sS r b)) ι (oweR c p) : sProp 𝕄) := by
  have h : Ctx xs κ ⊢ (levAts L lv : sProp 𝕄) := by
    unfold Ctx; iintro ⟨-, H⟩; iexact H
  exact h.trans (mayWait_send (F := F) c r b ι p hι)

theorem wp_opWaitRecv (r : Fin 8) (k : ℕ) (hk : k < 30) (p : Fin 8 → ℕ) (hl : ∀ r', k < p r') (K : PB F) :
    iprop(Ctx xs κ ∗ cred (tallyAt (recvC c r (mod15 k)) (k / 15) Nb) ∗ owesW c (oweR c p) ∗ atPos ER (recvC c r (mod15 k)) (k / 15) ∅ 0)
      ⊢ iprop((owesW c (oweR c p) -∗ atPos ER (recvC c r (mod15 k)) (k / 15 + 1) ∅ 0 -∗ reached ER (recvC c r (mod15 k)) (k / 15 + 1)
            -∗ recvPay xs c r k -∗ WP c K Q)
          -∗ WP c (opWaitRecv A1 hA1 A2 hA2 A3 hA3 cc0_scratch3 c r k K) Q) := by
  unfold owesW
  iintro ⟨#HC, Hc, ⟨%W, HO⟩, Hat⟩ Hk
  unfold opWaitRecv
  ihave HI := (Ctx_recv xs κ c r (mod15 k)) $$ HC
  icases HI with ⟨HI, -⟩
  iapply (Rounds.wp_wait_rest_token 𝒱₀ ER (Rd xs) (c : Thread nD τ) none (κ := κ (c, .inr (.inr (r, mod15 k))))
      (wpE_waitDma2_eq 𝒱₀ (c : Thread nD τ) none Set.univ) (Set.mem_univ (κ (c, .inr (.inr (r, mod15 k))))) (k / 15) (O := oweR c p) (W := W) (R := k / 15) (m := 0) (T := ∅)
      (by rw [Nat.zero_add, dst_credit]; exact (expect_recvk xs c r hk).symm)) $$ [HI Hc HO Hat]
  · isplitl [HI]; · iexact HI
    isplitl [Hc]; · rw [dst_credit]; iexact Hc
    isplitl [HO]; · iexact HO
    isplitr; · iapply (Ctx_mayRecv xs κ c r k p hk hl) $$ HC
    iexact Hat
  iintro ⟨HO, Hat, Hre, Hpay⟩
  ihave Hpay := (Entails.of_eq (rest_recvk xs c r hk)) $$ Hpay
  iapply Hk $$ [HO] Hat Hre Hpay
  iexists _; iexact HO

theorem wp_opWaitSend (r : Fin 8) (k : ℕ) (hk : k < 30) (p : Fin 8 → ℕ) (K : PB F) :
    iprop(Ctx xs κ ∗ cred (tallyAt (sendC c r (slotOf k)) (sndRnd k) Nb) ∗ owesW c (oweR c p) ∗ atPos ER (sendC c r (slotOf k)) (sndRnd k) ∅ 0)
      ⊢ iprop((owesW c (oweR c p) -∗ atPos ER (sendC c r (slotOf k)) (sndRnd k + 1) ∅ 0 -∗ reached ER (sendC c r (slotOf k)) (sndRnd k + 1)
            -∗ sendPay xs c r k -∗ WP c K Q)
          -∗ WP c (opWaitSend A1 hA1 A2 hA2 A3 hA3 cc0_scratch2 c r k K) Q) := by
  unfold owesW
  iintro ⟨#HC, Hc, ⟨%W, HO⟩, Hat⟩ Hk
  unfold opWaitSend
  ihave HI := (Ctx_send xs κ c r (slotOf k)) $$ HC
  icases HI with ⟨HI, -⟩
  have hlt : sndRnd k < 16 := lt_of_lt_of_le (sndRnd_lt ⟨k, hk⟩) (by unfold sndLen; split <;> omega)
  iapply (Rounds.wp_wait_rest_token 𝒱₀ ER (Rd xs) (c : Thread nD τ) none (κ := κ (c, .inr (.inl (r, slotOf k))))
      (wpE_waitDma2_eq 𝒱₀ (c : Thread nD τ) none Set.univ) (Set.mem_univ (κ (c, .inr (.inl (r, slotOf k))))) (sndRnd k) (O := oweR c p) (W := W) (R := sndRnd k) (m := 0) (T := ∅)
      (by rw [Nat.zero_add, src_credit]; exact (expect_sendk xs c r hk).symm)) $$ [HI Hc HO Hat]
  · isplitl [HI]; · iexact HI
    isplitl [Hc]; · rw [src_credit]; iexact Hc
    isplitl [HO]; · iexact HO
    isplitr; · iapply (Ctx_maySend xs κ c r (slotOf k) (sndRnd k) p hlt) $$ HC
    iexact Hat
  iintro ⟨HO, Hat, Hre, Hpay⟩
  ihave Hpay := (Entails.of_eq (rest_sendk xs c r hk)) $$ Hpay
  iapply Hk $$ [HO] Hat Hre Hpay
  iexists _; iexact HO

theorem wp_send_at (n : Dev nD) (r : Fin 8) (hn : n = dn c r) (k : ℕ) (hk : k < 30) (p : Fin 8 → ℕ) (hp : p r = k) (hsc hsrc hdst hsem) (K : PB F) :
    iprop(Ctx xs κ ∗ own c (src c r k) (msgV xs k r c) ∗ (∃ X, own (F := F) (dn c r) (dst c r k) X) ∗ Facts c (pair r) (k - 1) ∗ owesW c (oweR c p)
        ∗ dutyTok ER (sendC c r (slotOf k)) (sndRnd k) false ∗ reached ER (sendC c r (slotOf k)) (sndRnd k)
        ∗ dutyTok ER (recvC (dn c r) r (mod15 k)) (k / 15) false ∗ reached ER (recvC (dn c r) r (mod15 k)) (k / 15))
      ⊢ iprop((cred (tallyAt (sendC c r (slotOf k)) (sndRnd k) Nb) -∗ owesW c (oweR c (Function.update p r (k + 1))) -∗ WP c K Q)
          -∗ WP c (.op (.enqueueDma (src c r k) (.remote (Dev.tc n : Thread nD τ) (dst c r k) (.dma (sS r (slotOf k))) hsc) (.dma (rS r (mod15 k))) hsrc hdst hsem)
            fun _ => K) Q) := by
  subst hn; subst hp
  unfold owesW own ownsTc owns
  iintro ⟨#HC, ⟨%fs, %hfs, Hsrc⟩, ⟨%X, %fd, %hfd, Hdst⟩, HF, ⟨%W, HO⟩, Ht1, Hr1, Ht2, Hr2⟩ Hk
  ihave HI := (Ctx_send xs κ c r (slotOf (p r))) $$ HC
  icases HI with ⟨HI, -⟩
  ihave HI' := (Ctx_recv xs κ (dn c r) r (mod15 (p r))) $$ HC
  icases HI' with ⟨HI', -⟩
  iapply (Rounds.wp_send_pointsTo_with 𝒱₀ ER (Rd xs) (c : Thread nD τ) none (c' := (dn c r : Thread nD τ)) (src := src c r (p r)) (dst := dst c r (p r))
      (κ₁ := κ (c, .inr (.inl (r, slotOf (p r))))) (κ₂ := κ (dn c r, .inr (.inr (r, mod15 (p r)))))
      (r₁ := sndRnd (p r)) (r₂ := (p r) / 15) (d₁ := false) (d₂ := false) (fd := fd) (fs := fs) (q := fullShare) (F := Facts c (pair r) ((p r) - 1))
      (by rw [duties_sendk xs c r hk]; exact Finset.mem_singleton_self _) (by rw [duties_recvk xs (dn c r) r hk]; exact Finset.mem_singleton_self _)
      ((p r) / 15) (sndRnd (p r)) Nb (by exact dst_credit c r (p r)) (amount_send xs c r _ _ false) (amount_recv xs (dn c r) r _ _ false)
      (oweR c (Function.update p r ((p r) + 1))) (oweR_send c p r hk) (W := W)
      (by rw [payload_sendk xs c r hk]; unfold sendPay own ownsTc owns; iintro H; iexists fs; isplitr
          · ipureintro; exact hfs
          · iexact H)
      (by rw [payload_recvk, recvPay, up_dn]; unfold own ownsTc owns; iintro ⟨H, HF⟩; isplitr [HF]; rotate_left; · iexact HF
          iexists _; isplitr [H]; rotate_left; · iexact H
          ipureintro; rw [View.read_write_univ, hfs]))
    $$ [HI HI' Hsrc Hdst HF HO Ht1 Hr1 Ht2 Hr2]
  · isplitl [HI]; · iexact HI
    isplitl [HI']; · iexact HI'
    isplitl [Hsrc]; · iexact Hsrc
    isplitl [Hdst HF]
    · isplitl [Hdst] <;> iassumption
    isplitl [HO]; · iexact HO
    isplitl [Ht1]; · iexact Ht1
    isplitl [Hr1]; · iexact Hr1
    isplitl [Ht2] <;> iassumption
  iintro ⟨Hc, HO⟩
  iapply Hk $$ Hc
  iexists W; iexact HO

theorem wp_opSend (r : Fin 8) (k : ℕ) (hk : k < 30) (p : Fin 8 → ℕ) (hp : p r = k) (K : PB F) :
    iprop(Ctx xs κ ∗ own c (src c r k) (msgV xs k r c) ∗ (∃ X, own (F := F) (dn c r) (dst c r k) X) ∗ Facts c (pair r) (k - 1) ∗ owesW c (oweR c p)
        ∗ dutyTok ER (sendC c r (slotOf k)) (sndRnd k) false ∗ reached ER (sendC c r (slotOf k)) (sndRnd k)
        ∗ dutyTok ER (recvC (dn c r) r (mod15 k)) (k / 15) false ∗ reached ER (recvC (dn c r) r (mod15 k)) (k / 15))
      ⊢ iprop((cred (tallyAt (sendC c r (slotOf k)) (sndRnd k) Nb) -∗ owesW c (oweR c (Function.update p r (k + 1))) -∗ WP c K Q)
          -∗ WP c (opSend A1 hA1 A2 hA2 A3 hA3 cc0_scratch2 cc0_scratch3 c r k K) Q) :=
  wp_send_at xs κ c (dnDev c r) r (dnDev_eq c r) k hk p hp _ _ _ _ K

end Talk

end Cert.KernelIdeal.Gen
-- ==== Proof.Ring.lean ====
/- A ring's state, stage by stage, and the run of all the stages. -/
module

public import proofs.«01_k».proof.Proof.Ops
public import Idealize.SL.BI.BigOpNat

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Big
variable {I : Type} [DecidableEq I]
omit [FloatOps F] in
theorem big_elim {s : Finset I} {i : I} (h : i ∈ s) {Φ : I → sProp (MT nD τ sig ℕ (Elt F) ℕ UU ℕ)} : bigSep s Φ ⊢ Φ i := bigSep_elim h
omit [FloatOps F] in
theorem big_insert {s : Finset I} {i : I} (h : i ∉ s) {Φ : I → sProp (MT nD τ sig ℕ (Elt F) ℕ UU ℕ)} : bigSep (insert i s) Φ = iprop(Φ i ∗ bigSep s Φ) := bigSep_insert h
omit [FloatOps F] in
theorem big_erase {s : Finset I} {i : I} (h : i ∈ s) {Φ : I → sProp (MT nD τ sig ℕ (Elt F) ℕ UU ℕ)} : bigSep s Φ = iprop(Φ i ∗ bigSep (s.erase i) Φ) := bigSep_erase h
end Big

/-! ## Which messages are where -/

/-- The stage at which a device waits for its message `k` to have left (the last two after all stages). -/
def waitAt (k : ℕ) : ℕ := if k = 13 then 16 else if k = 14 then 15 else if k < 28 then k + 2 else 31
/-- The messages still leaving before stage `m`, and those gone. -/
def infl (m : ℕ) : Finset ℕ := (Finset.range 30).filter fun k => k < m ∧ m ≤ waitAt k
def gone (m : ℕ) : Finset ℕ := (Finset.range 30).filter fun k => k < m ∧ waitAt k < m
theorem prevOf_lt : ∀ m : Fin 30, 2 ≤ m.val → prevOf m.val < 30 := by decide +kernel
theorem infl_prev : ∀ m : Fin 30, 2 ≤ m.val → prevOf m.val ∈ infl m.val := by decide +kernel
theorem infl_succ : ∀ m : Fin 30, 2 ≤ m.val → infl (m.val + 1) = insert m.val ((infl m.val).erase (prevOf m.val)) := by decide +kernel
theorem infl_new : ∀ m : Fin 30, m.val ∉ infl m.val := by decide +kernel
theorem infl_small : ∀ m : Fin 2, infl (m.val + 1) = insert m.val (infl m.val) := by decide +kernel
theorem infl_last : infl 31 = infl 30 := by decide +kernel
theorem infl_end : infl 31 = {28, 29} := by decide +kernel
theorem infl_zero : infl 0 = ∅ := by decide +kernel
theorem gone_succ : ∀ m : Fin 30, 2 ≤ m.val → gone (m.val + 1) = insert (prevOf m.val) (gone m.val) := by decide +kernel
theorem gone_new : ∀ m : Fin 30, 2 ≤ m.val → prevOf m.val ∉ gone m.val := by decide +kernel
theorem gone_small : ∀ m : Fin 2, gone (m.val + 1) = gone m.val := by decide +kernel
theorem gone_last : gone 31 = gone 30 := by decide +kernel
theorem gone_end : gone 31 = Finset.range 28 := by decide +kernel
theorem gone_zero : gone 0 = ∅ := by decide +kernel

/-- How many messages a receive semaphore has taken when `n` have come. -/
def posAt (n : ℕ) (s : Fin 15) : ℕ := if n ≤ s.val then 0 else if n ≤ s.val + 15 then 1 else 2
theorem posAt_new : ∀ n : Fin 30, posAt n.val (mod15 n.val) = n.val / 15 := by decide +kernel
theorem posAt_succ : ∀ n : Fin 30, posAt (n.val + 1) (mod15 n.val) = n.val / 15 + 1 := by decide +kernel
theorem posAt_other : ∀ (n : Fin 30) (s : Fin 15), s ≠ mod15 n.val → posAt (n.val + 1) s = posAt n.val s := by decide +kernel

/-! ## The state -/

section State
variable (xs : Dev nD → S4096x1024.Idx → Elt F .bf16) (κ : Dev nD × CK → ℕ) (c : Dev nD)

/-- What is held for a message not yet sent, -/
def Unsent (r : Fin 8) (k : ℕ) : sProp 𝕄 :=
  iprop(dutyTok ER (sendC c r (slotOf k)) (sndRnd k) false ∗ dutyTok ER (recvC (dn c r) r (mod15 k)) (k / 15) false
    ∗ ∃ X, own (F := F) (dn c r) (dst c r k) X)
/-- for one still leaving, -/
def Leav (r : Fin 8) (k : ℕ) : sProp 𝕄 :=
  iprop(cred (tallyAt (sendC c r (slotOf k)) (sndRnd k) Nb) ∗ atPos ER (sendC c r (slotOf k)) (sndRnd k) ∅ 0)
/-- and for one to be received. -/
def Cr (r : Fin 8) (k : ℕ) : sProp 𝕄 := cred (tallyAt (recvC c r (mod15 k)) (k / 15) Nb)

def Uns (r : Fin 8) (m : ℕ) : sProp 𝕄 := bigSep (Finset.Ico m 30) (Unsent (F := F) c r)
def Lvs (r : Fin 8) (S : Finset ℕ) : sProp 𝕄 := bigSep S (Leav (F := F) c r)
def Gone (r : Fin 8) (m : ℕ) : sProp 𝕄 := bigSep (gone m) (sendPay xs c r)
def Crs (r : Fin 8) (n : ℕ) : sProp 𝕄 := bigSep (Finset.Ico n 30) (Cr (F := F) c r)
def Poss (r : Fin 8) (n : ℕ) : sProp 𝕄 := bigSep Finset.univ fun s : Fin 15 => atPos ER (recvC c r s) (posAt n s) ∅ 0
/-- The send semaphores not yet used. -/
def SPs (r : Fin 8) (m : ℕ) : sProp 𝕄 := bigSep (Finset.Ico m 2) fun k => atPos ER (sendC c r (slotOf k)) 0 ∅ 0
/-- The places no message is in. -/
def E1 (r : Fin 8) (m : ℕ) : sProp 𝕄 := if m = 0 then iprop(∃ X, own (F := F) c (src c r 0) X) else iprop(emp)
def E2 (r : Fin 8) (m : ℕ) : sProp 𝕄 := if m < 16 then iprop(∃ X, own (F := F) c (src c r 15) X) else iprop(emp)
def E3 (r : Fin 8) (m : ℕ) : sProp 𝕄 := if m < 16 then iprop(emp) else iprop(∃ X, own (F := F) c (dst (up c r) r 14) X)
def E4 (r : Fin 8) (m : ℕ) : sProp 𝕄 := if m < 31 then iprop(emp) else own c (dst (up c r) r 29) (msgV xs 29 r (up c r))

/-- Ring `r` before stage `m`. -/
def RS (r : Fin 8) (m : ℕ) : sProp 𝕄 :=
  iprop(Uns c r m ∗ Lvs c r (infl m) ∗ Gone xs c r m ∗ Crs c r (m - 1) ∗ Poss c r (m - 1) ∗ SPs c r m ∗ E1 c r m ∗ E2 c r m ∗ E3 c r m ∗ E4 xs c r m)
/-- What is known of the receive semaphores before stage `m`. -/
def FK (r : Fin 8) (m : ℕ) : sProp 𝕄 := iprop(Facts c r (m - 1) ∗ Facts (up c r) (pair r) (m - 3))
omit [FloatOps F] in
instance FK_persistent (r : Fin 8) (m : ℕ) : BI.Persistent (FK (F := F) c r m) := by unfold FK; infer_instance

/-- The device's state when ring `r` is before stage `p r`. -/
def St (p : Fin 8 → ℕ) : sProp 𝕄 :=
  iprop(ownX xs c ∗ owesW c (oweR c p) ∗ (bigSep Finset.univ fun r => RS xs c r (p r)) ∗ bigSep Finset.univ fun r => FK c r (p r))

end State

/-! ## The facts -/

section FactsL
variable (xs : Dev nD → S4096x1024.Idx → Elt F .bf16) (κ : Dev nD × CK → ℕ) (c : Dev nD)

omit [FloatOps F] in
theorem Facts_mono (r : Fin 8) {p q : ℕ} (h : p ≤ q) : (Facts c r q : sProp 𝕄) ⊢ Facts c r p := by
  unfold Facts; exact bigSep_subset (Finset.range_subset_range.mpr (by omega))
omit [FloatOps F] in
theorem Facts_get (r : Fin 8) (p : ℕ) (g : Fin 15) (h : g.val < p) : (Facts c r p : sProp 𝕄) ⊢ reached ER (recvC c r g) 1 := by
  have e : (fun i => reached ER (recvC c r (mod15 i)) 1 : ℕ → sProp 𝕄) g.val = reached ER (recvC c r g) 1 := by
    show reached ER (recvC c r (mod15 g.val)) 1 = _
    rw [show mod15 g.val = g from Fin.ext (Nat.mod_eq_of_lt g.isLt)]
  rw [← e]; unfold Facts
  exact big_elim (Finset.mem_range.mpr (by omega))
omit [FloatOps F] in
theorem Facts_succ (r : Fin 8) (n : ℕ) (h : n < 30) :
    iprop(Facts c r n ∗ reached ER (recvC c r (mod15 n)) (n / 15 + 1)) ⊢ (Facts c r (n + 1) : sProp 𝕄) := by
  unfold Facts
  by_cases hn : n < 15
  · rw [Nat.min_eq_left (by omega : n + 1 ≤ 15), Nat.min_eq_left (by omega : n ≤ 15), bigSep_range_succ, Nat.div_eq_of_lt hn]
    iintro ⟨H1, H2⟩; isplitl [H2] <;> iassumption
  · rw [Nat.min_eq_right (by omega : 15 ≤ n + 1), Nat.min_eq_right (by omega : 15 ≤ n)]
    iintro ⟨H, -⟩; iexact H
omit [FloatOps F] in
theorem Facts_zero (r : Fin 8) : ⊢ (Facts c r 0 : sProp 𝕄) := by
  unfold Facts; rw [Nat.zero_min, Finset.range_zero, bigSep_empty]
  iempintro

/-- What sending message `m` presents: how far the other ring's receives are, and that the receiver is ready. -/
theorem fk_get (p : Fin 8 → ℕ) (r : Fin 8) (m : ℕ) (hm : m < 30) (hp : m ≤ p (pair r)) :
    Ctx xs κ ⊢ iprop((bigSep Finset.univ fun r => FK c r (p r))
      -∗ (Facts c (pair r) (m - 1) ∗ reached ER (recvC (dn c r) r (mod15 m)) (m / 15))) := by
  iintro #HC HF
  ihave H := (big_elim (Finset.mem_univ (pair r)) (Φ := fun r => FK c r (p r))) $$ HF
  unfold FK
  icases H with ⟨H1, H2⟩
  isplitl [H1]
  · iapply (Facts_mono c (pair r) (by omega : m - 1 ≤ p (pair r) - 1)) $$ H1
  · by_cases h15 : m < 15
    · rw [Nat.div_eq_of_lt h15]
      ihave HI := (Ctx_recv xs κ (dn c r) r (mod15 m)) $$ HC
      icases HI with ⟨-, HI⟩
      iexact HI
    · rw [show m / 15 = 1 by omega, pair_pair, up_pair]
      iapply (Facts_get (dn c r) r (p (pair r) - 3) (mod15 m) (by show m % 15 < _; omega)) $$ H2

omit [FloatOps F] in
theorem fk_set (p : Fin 8 → ℕ) (r : Fin 8) (m : ℕ) :
    (bigSep Finset.univ fun r => FK c r (p r) : sProp 𝕄) ⊢ iprop(FK c r m -∗ bigSep Finset.univ fun r' => FK c r' (Function.update p r m r')) := by
  iintro H HN
  ihave H' := (bigSep_univ_turn (α := fun _ => ℕ) (fun r m => FK (F := F) c r m) p r) $$ H
  icases H' with ⟨-, Hw⟩
  iapply Hw $$ %m HN

omit [FloatOps F] in
theorem fk_next (r : Fin 8) (m : ℕ) (h : 1 ≤ m) (hm : m ≤ 30) :
    iprop(FK c r m ∗ reached ER (recvC c r (mod15 (m - 1))) ((m - 1) / 15 + 1) ∗ Facts (up c r) (pair r) (m - 1 - 1)) ⊢ (FK c r (m + 1) : sProp 𝕄) := by
  unfold FK
  iintro ⟨⟨H1, -⟩, Hr, Hf⟩
  isplitr [Hf]
  · ihave H := (Facts_succ c r (m - 1) (by omega)) $$ [H1 Hr]
    · isplitl [H1] <;> iassumption
    rw [show m - 1 + 1 = m + 1 - 1 by omega]; iexact H
  · rw [show m - 1 - 1 = m + 1 - 3 by omega]; iexact Hf

end FactsL

/-! ## The parts of a stage -/

section Parts
variable (xs : Dev nD → S4096x1024.Idx → Elt F .bf16) (κ : Dev nD × CK → ℕ) (c : Dev nD) {Q : PUnit.{1} → sProp (MT nD τ sig ℕ (Elt F) ℕ UU ℕ)}

theorem recv_part (r : Fin 8) (n : ℕ) (hn : n < 30) (p : Fin 8 → ℕ) (hl : ∀ r', n < p r') (K : PB F) :
    Ctx xs κ ⊢ iprop(owesW c (oweR c p) -∗ Crs c r n -∗ Poss c r n
      -∗ (owesW c (oweR c p) -∗ Crs c r (n + 1) -∗ Poss c r (n + 1) -∗ reached ER (recvC c r (mod15 n)) (n / 15 + 1)
          -∗ own c (dst (up c r) r n) (msgV xs n r (up c r)) -∗ Facts (up c r) (pair r) (n - 1) -∗ WP c K Q)
      -∗ WP c (opWaitRecv A1 hA1 A2 hA2 A3 hA3 cc0_scratch3 c r n K) Q) := by
  unfold Crs
  rw [bigSep_Ico_succ_bot hn]
  iintro #HC HO HCr HP Hk
  icases HCr with ⟨HCn, HCr⟩
  ihave HP := (show Poss c r n ⊢ iprop(atPos ER (recvC c r (mod15 n)) (n / 15) ∅ 0 ∗ (atPos ER (recvC c r (mod15 n)) (n / 15 + 1) ∅ 0 -∗ Poss c r (n + 1))) by
    unfold Poss
    refine (bigSep_univ_update (Φ := fun s : Fin 15 => atPos ER (recvC c r s) (posAt n s) ∅ 0)
      (Ψ := fun s : Fin 15 => atPos ER (recvC c r s) (posAt (n + 1) s) ∅ 0) (mod15 n) fun s hs => by rw [posAt_other ⟨n, hn⟩ s hs]).trans ?_
    rw [posAt_new ⟨n, hn⟩, posAt_succ ⟨n, hn⟩]) $$ HP
  icases HP with ⟨HPn, HP⟩
  iapply (wp_opWaitRecv xs κ c r n hn p hl K) $$ [HO HCn HPn]
  · isplitr; · iexact HC
    isplitl [HCn]; · unfold Cr; iexact HCn
    isplitl [HO] <;> iassumption
  iintro HO HPn Hre Hpay
  unfold recvPay
  icases Hpay with ⟨Hown, HF⟩
  ihave HP := HP $$ HPn
  iapply Hk $$ HO HCr HP Hre Hown HF

theorem wait_part (r : Fin 8) (m : ℕ) (hm : m < 30) (h2 : 2 ≤ m) (p : Fin 8 → ℕ) (K : PB F) :
    Ctx xs κ ⊢ iprop(owesW c (oweR c p) -∗ Lvs c r (infl m) -∗ Gone xs c r m
      -∗ (owesW c (oweR c p) -∗ Lvs c r ((infl m).erase (prevOf m)) -∗ Gone xs c r (m + 1) -∗ atPos ER (sendC c r (slotOf m)) (sndRnd m) ∅ 0
          -∗ reached ER (sendC c r (slotOf m)) (sndRnd m) -∗ WP c K Q)
      -∗ WP c (opWaitSend A1 hA1 A2 hA2 A3 hA3 cc0_scratch2 c r (prevOf m) K) Q) := by
  unfold Lvs Gone
  rw [big_erase (infl_prev ⟨m, hm⟩ h2), gone_succ ⟨m, hm⟩ h2, big_insert (gone_new ⟨m, hm⟩ h2)]
  unfold Leav
  iintro #HC HO HL HG Hk
  icases HL with ⟨⟨Hc, Hat⟩, HL⟩
  iapply (wp_opWaitSend xs κ c r (prevOf m) (prevOf_lt ⟨m, hm⟩ h2) p K) $$ [HO Hc Hat]
  · isplitr; · iexact HC
    isplitl [Hc]; · iexact Hc
    isplitl [HO] <;> iassumption
  rw [prevOf_slot ⟨m, hm⟩ h2, ← sndRnd_prev ⟨m, hm⟩ h2]
  iintro HO Hat Hre Hpay
  iapply Hk $$ HO HL [HG Hpay] Hat Hre
  isplitl [Hpay] <;> iassumption

theorem send_part (r : Fin 8) (m : ℕ) (hm : m < 30) (p : Fin 8 → ℕ) (hp : p r = m) (S : Finset ℕ) (hS : m ∉ S) (K : PB F) :
    Ctx xs κ ⊢ iprop(owesW c (oweR c p) -∗ Uns c r m -∗ own c (src c r m) (msgV xs m r c) -∗ Facts c (pair r) (m - 1)
      -∗ reached ER (recvC (dn c r) r (mod15 m)) (m / 15) -∗ reached ER (sendC c r (slotOf m)) (sndRnd m) -∗ atPos ER (sendC c r (slotOf m)) (sndRnd m) ∅ 0
      -∗ Lvs c r S
      -∗ (owesW c (oweR c (Function.update p r (m + 1))) -∗ Uns c r (m + 1) -∗ Lvs c r (insert m S) -∗ WP c K Q)
      -∗ WP c (opSend A1 hA1 A2 hA2 A3 hA3 cc0_scratch2 cc0_scratch3 c r m K) Q) := by
  unfold Uns Lvs
  rw [bigSep_Ico_succ_bot hm, big_insert hS]
  iintro #HC HO HU Hs HF Hr2 Hr1 Hat HL Hk
  icases HU with ⟨HUn, HU⟩
  unfold Unsent
  icases HUn with ⟨Ht1, Ht2, Hd⟩
  iapply (wp_opSend xs κ c r m hm p hp K) $$ [HO Hs HF Hr1 Hr2 Ht1 Ht2 Hd]
  · isplitr; · iexact HC
    isplitl [Hs]; · iexact Hs
    isplitl [Hd]; · iexact Hd
    isplitl [HF]; · iexact HF
    isplitl [HO]; · iexact HO
    isplitl [Ht1]; · iexact Ht1
    isplitl [Hr1]; · iexact Hr1
    isplitl [Ht2] <;> iassumption
  iintro Hc HO
  iapply Hk $$ HO HU
  isplitl [Hc Hat]
  · unfold Leav; isplitl [Hc] <;> iassumption
  · iexact HL

end Parts

end Cert.KernelIdeal.Gen
-- ==== Proof.Stage.lean ====
/- One stage of one ring takes the device's state on, and so do all the stages and the last waits. -/
module

public import proofs.«01_k».proof.Proof.Ring

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Stage
variable (xs : Dev nD → S4096x1024.Idx → Elt F .bf16) (κ : Dev nD × CK → ℕ) (c : Dev nD) {Q : PUnit.{1} → sProp (MT nD τ sig ℕ (Elt F) ℕ UU ℕ)}

/-- What puts ring `r` back. -/
def Back (p : Fin 8 → ℕ) (r : Fin 8) : sProp 𝕄 := iprop(∀ q : ℕ, RS xs c r q -∗ bigSep Finset.univ fun r' => RS xs c r' (Function.update p r q r'))

theorem St_open (p : Fin 8 → ℕ) (r : Fin 8) {m : ℕ} (hr : p r = m) :
    St xs c p ⊢ iprop(ownX xs c ∗ owesW c (oweR c p) ∗ (bigSep Finset.univ fun r => FK c r (p r)) ∗ RS xs c r m ∗ Back xs c p r) := by
  subst hr
  unfold St Back
  iintro ⟨HX, HO, HR, HF⟩
  ihave H := (bigSep_univ_turn (α := fun _ => ℕ) (fun r m => RS xs c r m) p r) $$ HR
  icases H with ⟨H1, H2⟩
  isplitl [HX]; · iexact HX
  isplitl [HO]; · iexact HO
  isplitl [HF]; · iexact HF
  isplitl [H1] <;> iassumption

theorem St_close (p : Fin 8 → ℕ) (r : Fin 8) (m : ℕ) :
    iprop(ownX xs c ∗ owesW c (oweR c (Function.update p r m)) ∗ (bigSep Finset.univ fun r => FK c r (p r)) ∗ FK c r m ∗ RS xs c r m ∗ Back xs c p r)
      ⊢ St xs c (Function.update p r m) := by
  unfold St Back
  iintro ⟨HX, HO, HF, HN, HR, HB⟩
  isplitl [HX]; · iexact HX
  isplitl [HO]; · iexact HO
  isplitl [HR HB]
  · iapply HB $$ %m HR
  · iapply (fk_set c p r m) $$ HF HN

theorem recv_step (r : Fin 8) (m : ℕ) (h1 : 1 ≤ m) (hm : m ≤ 30) (p : Fin 8 → ℕ) (hr : p r = m) (hl : ∀ r', m ≤ p r') (K : PB F) :
    Ctx xs κ ⊢ iprop(owesW c (oweR c p) -∗ Crs c r (m - 1) -∗ Poss c r (m - 1) -∗ (bigSep Finset.univ fun r => FK c r (p r))
      -∗ (owesW c (oweR c p) -∗ Crs c r m -∗ Poss c r m -∗ FK c r (m + 1) -∗ own c (dst (up c r) r (m - 1)) (msgV xs (m - 1) r (up c r)) -∗ WP c K Q)
      -∗ WP c (opWaitRecv A1 hA1 A2 hA2 A3 hA3 cc0_scratch3 c r (m - 1) K) Q) := by
  have key := recv_part xs κ c (Q := Q) r (m - 1) (by omega) p (fun r' => by have := hl r'; omega) K
  rw [Nat.sub_add_cancel h1] at key
  iintro #HC HO HCr HP HF Hk
  iapply key $$ HC HO HCr HP
  iintro HO HCr HP Hre Hown Hfa
  ihave HF := (show (bigSep Finset.univ fun r => FK (F := F) c r (p r)) ⊢ FK c r m from (big_elim (Finset.mem_univ r)).trans (Entails.of_eq (by rw [hr]))) $$ HF
  ihave HF := (fk_next c r m h1 hm) $$ [HF Hre Hfa]
  · isplitl [HF]; · iexact HF
    isplitl [Hre] <;> iassumption
  iapply Hk $$ HO HCr HP HF Hown

/-- A stage's last operation, a send. -/
theorem send_step (r : Fin 8) (m : ℕ) (hm : m < 30) (p : Fin 8 → ℕ) (hr : p r = m) (hl : ∀ r', m ≤ p r') (S : Finset ℕ) (hS : m ∉ S)
    (hS' : infl (m + 1) = insert m S) (K : PB F) :
    Ctx xs κ ⊢ iprop(ownX xs c -∗ owesW c (oweR c p) -∗ (bigSep Finset.univ fun r => FK c r (p r)) -∗ FK c r (m + 1) -∗ Back xs c p r
      -∗ Uns c r m -∗ own c (src c r m) (msgV xs m r c) -∗ reached ER (sendC c r (slotOf m)) (sndRnd m) -∗ atPos ER (sendC c r (slotOf m)) (sndRnd m) ∅ 0
      -∗ Lvs c r S -∗ Gone xs c r (m + 1) -∗ Crs c r m -∗ Poss c r m -∗ SPs c r (m + 1) -∗ E2 c r (m + 1) -∗ E3 c r (m + 1)
      -∗ (St xs c (Function.update p r (m + 1)) -∗ WP c K Q)
      -∗ WP c (opSend A1 hA1 A2 hA2 A3 hA3 cc0_scratch2 cc0_scratch3 c r m K) Q) := by
  have e1 : (E1 (F := F) c r (m + 1)) = iprop(emp) := if_neg (by omega)
  have e4 : (E4 xs c r (m + 1)) = iprop(emp) := if_pos (by omega)
  iintro #HC HX HO #HF HFr HB HU Hs Hr Hat HL HG HCr HP HSP H2 H3 Hk
  ihave Hg := (fk_get xs κ c p r m hm (hl (pair r))) $$ HC HF
  icases Hg with ⟨Hfa, Hre⟩
  iapply (send_part xs κ c r m hm p hr S hS K) $$ HC HO HU Hs Hfa Hre Hr Hat HL
  iintro HO HU HL
  iapply Hk
  iapply (St_close xs c p r (m + 1))
  isplitl [HX]; · iexact HX
  isplitl [HO]; · iexact HO
  isplitr; · iexact HF
  isplitl [HFr]; · iexact HFr
  isplitr [HB]; rotate_left; · iexact HB
  unfold RS
  rw [e1, e4, hS', Nat.add_sub_cancel]
  isplitl [HU]; · iexact HU
  isplitl [HL]; · iexact HL
  isplitl [HG]; · iexact HG
  isplitl [HCr]; · iexact HCr
  isplitl [HP]; · iexact HP
  isplitl [HSP]; · iexact HSP
  isplitr; · iempintro
  isplitl [H2]; · iexact H2
  isplitl [H3]; · iexact H3
  iempintro

/-- A send semaphore not yet used. -/
theorem sp_get (r : Fin 8) (m : ℕ) (hm : m < 2) :
    Ctx xs κ ⊢ iprop(SPs c r m -∗ (reached ER (sendC c r (slotOf m)) (sndRnd m) ∗ atPos ER (sendC c r (slotOf m)) (sndRnd m) ∅ 0 ∗ SPs c r (m + 1))) := by
  rw [show sndRnd m = 0 from sndRnd_small ⟨m, hm⟩]
  unfold SPs
  rw [bigSep_Ico_succ_bot hm]
  iintro #HC ⟨H1, H2⟩
  ihave HI := (Ctx_send xs κ c r (slotOf m)) $$ HC
  icases HI with ⟨-, HI⟩
  isplitl [HI]; · iexact HI
  isplitl [H1] <;> iassumption

abbrev stg (m : ℕ) (r : Fin 8) (K : PB F) : PB F := stageR A0 A1 hA1 A2 hA2 A3 hA3 cc0_scratch2 cc0_scratch3 c m r K

theorem stage_0 (p : Fin 8 → ℕ) (r : Fin 8) (hr : p r = 0) (K : PB F) :
    Ctx xs κ ⊢ iprop(St xs c p -∗ (St xs c (Function.update p r 1) -∗ WP c K Q) -∗ WP c (stg c 0 r K) Q) := by
  rw [show stg (F := F) c 0 r K = opSeed A0 A3 hA3 c r (opSend A1 hA1 A2 hA2 A3 hA3 cc0_scratch2 cc0_scratch3 c r 0 K) from rfl]
  have hF : (bigSep Finset.univ fun r => FK (F := F) c r (p r)) ⊢ FK c r 1 := (big_elim (Finset.mem_univ r)).trans (Entails.of_eq (by rw [hr]; rfl))
  iintro #HC HS Hk
  ihave HS := (St_open xs c p r hr) $$ HS
  icases HS with ⟨HX, HO, #HF, HR, HB⟩
  unfold RS
  icases HR with ⟨HU, HL, HG, HCr, HP, HSP, H1, H2, H3, -⟩
  ihave HFr := hF $$ HF
  ihave Hsp := (sp_get xs κ c r 0 (by decide)) $$ HC HSP
  icases Hsp with ⟨Hre, Hat, HSP⟩
  ihave H1 := (Entails.of_eq (show E1 (F := F) c r 0 = iprop(∃ X, own (F := F) c (src c r 0) X) from if_pos rfl)) $$ H1
  iapply (wp_opSeed xs c r _) $$ [HX H1]
  · isplitl [HX] <;> iassumption
  iintro HX Hs
  ihave HG := (Entails.of_eq (show Gone xs c r 0 = Gone xs c r 1 by unfold Gone; rw [show gone 1 = gone 0 from gone_small 0])) $$ HG
  ihave H2 := (Entails.of_eq (show E2 (F := F) c r 0 = E2 c r (0 + 1) by unfold E2; rw [if_pos (by omega), if_pos (by omega)])) $$ H2
  ihave H3 := (Entails.of_eq (show E3 (F := F) c r 0 = E3 c r (0 + 1) by unfold E3; rw [if_pos (by omega), if_pos (by omega)])) $$ H3
  iapply (send_step xs κ c r 0 (by decide) p hr (fun _ => Nat.zero_le _) (infl 0) (infl_new 0) (infl_small 0) K)
    $$ HC HX HO HF HFr HB HU Hs Hre Hat HL HG HCr HP HSP H2 H3 Hk

theorem stage_1 (p : Fin 8 → ℕ) (r : Fin 8) (hr : p r = 1) (hl : ∀ r', 1 ≤ p r') (K : PB F) :
    Ctx xs κ ⊢ iprop(St xs c p -∗ (St xs c (Function.update p r 2) -∗ WP c K Q) -∗ WP c (stg c 1 r K) Q) := by
  rw [show stg (F := F) c 1 r K = opWaitRecv A1 hA1 A2 hA2 A3 hA3 cc0_scratch3 c r (1 - 1) (opAdd A0 A2 hA2 c r (mod15 0)
    (opSend A1 hA1 A2 hA2 A3 hA3 cc0_scratch2 cc0_scratch3 c r 1 K)) from rfl]
  iintro #HC HS Hk
  ihave HS := (St_open xs c p r hr) $$ HS
  icases HS with ⟨HX, HO, #HF, HR, HB⟩
  unfold RS
  icases HR with ⟨HU, HL, HG, HCr, HP, HSP, -, H2, H3, -⟩
  iapply (recv_step xs κ c r 1 (by decide) (by decide) p hr hl _) $$ HC HO HCr HP HF
  iintro HO HCr HP HFr Hs
  ihave Hs := (Entails.of_eq (show own c (dst (up c r) r (1 - 1)) (msgV xs (1 - 1) r (up c r)) = own c (src c r (0 + 1)) (msgV xs 0 r (up c r)) by
    rw [← dst_up_src c r (k := 0) (by omega)])) $$ Hs
  iapply (wp_opAdd xs c r (s := 0) (by decide) _) $$ [HX Hs]
  · isplitl [HX] <;> iassumption
  iintro HX Hs
  ihave Hsp := (sp_get xs κ c r 1 (by decide)) $$ HC HSP
  icases Hsp with ⟨Hre, Hat, HSP⟩
  ihave HG := (Entails.of_eq (show Gone xs c r 1 = Gone xs c r 2 by unfold Gone; rw [show gone 2 = gone 1 from gone_small 1])) $$ HG
  ihave H2 := (Entails.of_eq (show E2 (F := F) c r 1 = E2 c r (1 + 1) by unfold E2; rw [if_pos (by omega), if_pos (by omega)])) $$ H2
  ihave H3 := (Entails.of_eq (show E3 (F := F) c r 1 = E3 c r (1 + 1) by unfold E3; rw [if_pos (by omega), if_pos (by omega)])) $$ H3
  iapply (send_step xs κ c r 1 (by decide) p hr hl (infl 1) (infl_new 1) (infl_small 1) K)
    $$ HC HX HO HF HFr HB HU Hs Hre Hat HL HG HCr HP HSP H2 H3 Hk

theorem stage_add (p : Fin 8 → ℕ) (m : ℕ) (h2 : 2 ≤ m) (hm : m < 15) (r : Fin 8) (hr : p r = m) (hl : ∀ r', m ≤ p r') (K : PB F) :
    Ctx xs κ ⊢ iprop(St xs c p -∗ (St xs c (Function.update p r (m + 1)) -∗ WP c K Q) -∗ WP c (stg c m r K) Q) := by
  rw [show stg (F := F) c m r K = opWaitRecv A1 hA1 A2 hA2 A3 hA3 cc0_scratch3 c r (m - 1) (opAdd A0 A2 hA2 c r (mod15 (m - 1))
    (opWaitSend A1 hA1 A2 hA2 A3 hA3 cc0_scratch2 c r (prevOf m) (opSend A1 hA1 A2 hA2 A3 hA3 cc0_scratch2 cc0_scratch3 c r m K))) by
      unfold stg stageR; rw [if_neg (by omega), if_neg (by omega), if_pos hm]]
  have hadd := wp_opAdd xs c (Q := Q) r (s := m - 1) (by omega)
  rw [Nat.sub_add_cancel (by omega : 1 ≤ m)] at hadd
  have hs : own c (dst (up c r) r (m - 1)) (msgV xs (m - 1) r (up c r)) = own c (src c r m) (msgV xs (m - 1) r (up c r)) := by
    rw [dst_up_src c r (k := m - 1) (by omega), Nat.sub_add_cancel (by omega : 1 ≤ m)]
  iintro #HC HS Hk
  ihave HS := (St_open xs c p r hr) $$ HS
  icases HS with ⟨HX, HO, #HF, HR, HB⟩
  unfold RS
  icases HR with ⟨HU, HL, HG, HCr, HP, HSP, -, H2, H3, -⟩
  iapply (recv_step xs κ c r m (by omega) (by omega) p hr hl _) $$ HC HO HCr HP HF
  iintro HO HCr HP HFr Hs
  ihave Hs := (Entails.of_eq hs) $$ Hs
  iapply (hadd _) $$ [HX Hs]
  · isplitl [HX] <;> iassumption
  iintro HX Hs
  iapply (wait_part xs κ c r m (by omega) h2 p _) $$ HC HO HL HG
  iintro HO HL HG Hat Hre
  ihave HSP := (Entails.of_eq (show SPs (F := F) c r m = SPs c r (m + 1) by
    unfold SPs; rw [Finset.Ico_eq_empty (by omega), Finset.Ico_eq_empty (by omega)])) $$ HSP
  ihave H2 := (Entails.of_eq (show E2 (F := F) c r m = E2 c r (m + 1) by unfold E2; rw [if_pos (by omega), if_pos (by omega)])) $$ H2
  ihave H3 := (Entails.of_eq (show E3 (F := F) c r m = E3 c r (m + 1) by unfold E3; rw [if_pos (by omega), if_pos (by omega)])) $$ H3
  iapply (send_step xs κ c r m (by omega) p hr hl _ (fun h => infl_new ⟨m, by omega⟩ (Finset.mem_of_mem_erase h)) (infl_succ ⟨m, by omega⟩ h2) K)
    $$ HC HX HO HF HFr HB HU Hs Hre Hat HL HG HCr HP HSP H2 H3 Hk

theorem stage_own (p : Fin 8 → ℕ) (r : Fin 8) (hr : p r = 15) (hl : ∀ r', 15 ≤ p r') (K : PB F) :
    Ctx xs κ ⊢ iprop(St xs c p -∗ (St xs c (Function.update p r 16) -∗ WP c K Q) -∗ WP c (stg c 15 r K) Q) := by
  rw [show stg (F := F) c 15 r K = opWaitRecv A1 hA1 A2 hA2 A3 hA3 cc0_scratch3 c r (15 - 1) (opOwn A0 A1 hA1 A2 c r
    (opWaitSend A1 hA1 A2 hA2 A3 hA3 cc0_scratch2 c r (prevOf 15) (opSend A1 hA1 A2 hA2 A3 hA3 cc0_scratch2 cc0_scratch3 c r 15 K))) from rfl]
  iintro #HC HS Hk
  ihave HS := (St_open xs c p r hr) $$ HS
  icases HS with ⟨HX, HO, #HF, HR, HB⟩
  unfold RS
  icases HR with ⟨HU, HL, HG, HCr, HP, HSP, -, H2, -, -⟩
  iapply (recv_step xs κ c r 15 (by decide) (by decide) p hr hl _) $$ HC HO HCr HP HF
  iintro HO HCr HP HFr Hs
  ihave H2 := (Entails.of_eq (show E2 (F := F) c r 15 = iprop(∃ X, own (F := F) c (src c r 15) X) from if_pos (by decide))) $$ H2
  iapply (wp_opOwn xs c r _) $$ [HX Hs H2]
  · isplitl [HX]; · iexact HX
    isplitl [Hs] <;> iassumption
  iintro HX H3 Hs
  iapply (wait_part xs κ c r 15 (by decide) (by decide) p _) $$ HC HO HL HG
  iintro HO HL HG Hat Hre
  ihave HSP := (Entails.of_eq (show SPs (F := F) c r 15 = SPs c r (15 + 1) by
    unfold SPs; rw [Finset.Ico_eq_empty (by omega), Finset.Ico_eq_empty (by omega)])) $$ HSP
  iapply (send_step xs κ c r 15 (by decide) p hr hl ((infl 15).erase (prevOf 15)) (fun h => infl_new 15 (Finset.mem_of_mem_erase h)) (infl_succ 15 (by decide)) K)
    $$ HC HX HO HF HFr HB HU Hs Hre Hat HL HG HCr HP HSP [] [H3] Hk
  · rw [show E2 (F := F) c r (15 + 1) = iprop(emp) from if_neg (by omega)]; iempintro
  · rw [show E3 (F := F) c r (15 + 1) = iprop(∃ X, own (F := F) c (dst (up c r) r 14) X) from if_neg (by omega)]
    iexists _; iexact H3

theorem stage_pass (p : Fin 8 → ℕ) (m : ℕ) (h2 : 16 ≤ m) (hm : m < 30) (r : Fin 8) (hr : p r = m) (hl : ∀ r', m ≤ p r') (K : PB F) :
    Ctx xs κ ⊢ iprop(St xs c p -∗ (St xs c (Function.update p r (m + 1)) -∗ WP c K Q) -∗ WP c (stg c m r K) Q) := by
  rw [show stg (F := F) c m r K = opWaitRecv A1 hA1 A2 hA2 A3 hA3 cc0_scratch3 c r (m - 1)
    (opWaitSend A1 hA1 A2 hA2 A3 hA3 cc0_scratch2 c r (prevOf m) (opSend A1 hA1 A2 hA2 A3 hA3 cc0_scratch2 cc0_scratch3 c r m K)) by
      unfold stg stageR; rw [if_neg (by omega), if_neg (by omega), if_neg (by omega), if_neg (by omega), if_pos hm]]
  have hs : own c (dst (up c r) r (m - 1)) (msgV xs (m - 1) r (up c r)) = own c (src c r m) (msgV xs m r c) := by
    rw [← msgV_pass xs (by omega : 15 ≤ m - 1), dst_up_src c r (k := m - 1) (by omega), Nat.sub_add_cancel (by omega : 1 ≤ m)]
  iintro #HC HS Hk
  ihave HS := (St_open xs c p r hr) $$ HS
  icases HS with ⟨HX, HO, #HF, HR, HB⟩
  unfold RS
  icases HR with ⟨HU, HL, HG, HCr, HP, HSP, -, H2, H3, -⟩
  iapply (recv_step xs κ c r m (by omega) (by omega) p hr hl _) $$ HC HO HCr HP HF
  iintro HO HCr HP HFr Hs
  ihave Hs := (Entails.of_eq hs) $$ Hs
  iapply (wait_part xs κ c r m (by omega) (by omega) p _) $$ HC HO HL HG
  iintro HO HL HG Hat Hre
  ihave HSP := (Entails.of_eq (show SPs (F := F) c r m = SPs c r (m + 1) by
    unfold SPs; rw [Finset.Ico_eq_empty (by omega), Finset.Ico_eq_empty (by omega)])) $$ HSP
  ihave H2 := (Entails.of_eq (show E2 (F := F) c r m = E2 c r (m + 1) by unfold E2; rw [if_neg (by omega), if_neg (by omega)])) $$ H2
  ihave H3 := (Entails.of_eq (show E3 (F := F) c r m = E3 c r (m + 1) by unfold E3; rw [if_neg (by omega), if_neg (by omega)])) $$ H3
  iapply (send_step xs κ c r m (by omega) p hr hl _ (fun h => infl_new ⟨m, by omega⟩ (Finset.mem_of_mem_erase h)) (infl_succ ⟨m, by omega⟩ (by show 2 ≤ m; omega)) K)
    $$ HC HX HO HF HFr HB HU Hs Hre Hat HL HG HCr HP HSP H2 H3 Hk

theorem oweR_last (p : Fin 8 → ℕ) (r : Fin 8) (hr : p r = 30) : oweR c (Function.update p r 31) = oweR c p := by
  unfold oweR
  refine Finset.sum_congr rfl fun r' _ => ?_
  by_cases h : r' = r
  · subst h; rw [Function.update_self, hr]; rfl
  · rw [Function.update_of_ne h]

theorem stage_last (p : Fin 8 → ℕ) (r : Fin 8) (hr : p r = 30) (hl : ∀ r', 30 ≤ p r') (K : PB F) :
    Ctx xs κ ⊢ iprop(St xs c p -∗ (St xs c (Function.update p r 31) -∗ WP c K Q) -∗ WP c (stg c 30 r K) Q) := by
  rw [show stg (F := F) c 30 r K = opWaitRecv A1 hA1 A2 hA2 A3 hA3 cc0_scratch3 c r (30 - 1) K from rfl]
  iintro #HC HS Hk
  ihave HS := (St_open xs c p r hr) $$ HS
  icases HS with ⟨HX, HO, #HF, HR, HB⟩
  unfold RS
  icases HR with ⟨HU, HL, HG, HCr, HP, HSP, -, H2, H3, -⟩
  iapply (recv_step xs κ c r 30 (by decide) (by decide) p hr hl _) $$ HC HO HCr HP HF
  iintro HO HCr HP HFr Hs
  iapply Hk
  iapply (St_close xs c p r 31)
  rw [oweR_last c p r hr]
  isplitl [HX]; · iexact HX
  isplitl [HO]; · iexact HO
  isplitr; · iexact HF
  isplitl [HFr]; · iexact HFr
  isplitr [HB]; rotate_left; · iexact HB
  unfold RS
  rw [infl_last, show Gone xs c r 31 = Gone xs c r 30 by unfold Gone; rw [gone_last],
    show Uns (F := F) c r 31 = Uns c r 30 by unfold Uns; rw [Finset.Ico_eq_empty (by omega), Finset.Ico_eq_empty (by omega)],
    show SPs (F := F) c r 31 = SPs c r 30 by unfold SPs; rw [Finset.Ico_eq_empty (by omega), Finset.Ico_eq_empty (by omega)],
    show E1 (F := F) c r 31 = iprop(emp) from if_neg (by omega), show E2 (F := F) c r 31 = E2 c r 30 by unfold E2; rw [if_neg (by omega), if_neg (by omega)],
    show E3 (F := F) c r 31 = E3 c r 30 by unfold E3; rw [if_neg (by omega), if_neg (by omega)],
    show E4 xs c r 31 = own c (dst (up c r) r 29) (msgV xs 29 r (up c r)) from if_neg (by omega)]
  isplitl [HU]; · iexact HU
  isplitl [HL]; · iexact HL
  isplitl [HG]; · iexact HG
  isplitl [HCr]; · iexact HCr
  isplitl [HP]; · iexact HP
  isplitl [HSP]; · iexact HSP
  isplitr; · iempintro
  isplitl [H2]; · iexact H2
  isplitl [H3]; · iexact H3
  iexact Hs

/-- One stage of one ring. -/
theorem stage_step (p : Fin 8 → ℕ) (m : ℕ) (hm : m ≤ 30) (r : Fin 8) (hr : p r = m) (hl : ∀ r', m ≤ p r') (K : PB F) :
    Ctx xs κ ⊢ iprop(St xs c p -∗ (St xs c (Function.update p r (m + 1)) -∗ WP c K Q) -∗ WP c (stg c m r K) Q) := by
  by_cases h0 : m = 0
  · subst h0; exact stage_0 xs κ c p r hr K
  by_cases h1 : m = 1
  · subst h1; exact stage_1 xs κ c p r hr hl K
  by_cases h15 : m < 15
  · exact stage_add xs κ c p m (by omega) h15 r hr hl K
  by_cases e15 : m = 15
  · subst e15; exact stage_own xs κ c p r hr hl K
  by_cases h30 : m < 30
  · exact stage_pass xs κ c p m (by omega) h30 r hr hl K
  obtain rfl : m = 30 := by omega
  exact stage_last xs κ c p r hr hl K

/-- One stage of the rings listed, the others past it. -/
theorem stage_list (m : ℕ) (hm : m ≤ 30) (K : PB F) : ∀ (l : List (Fin 8)) (p : Fin 8 → ℕ), l.Nodup → (∀ r, p r = if r ∈ l then m else m + 1) →
    (Ctx xs κ ⊢ iprop(St xs c p -∗ (St xs c (fun _ => m + 1) -∗ WP c K Q)
      -∗ WP c (stageL A0 A1 hA1 A2 hA2 A3 hA3 cc0_scratch2 cc0_scratch3 c m l K) Q))
  | [], p, _, hp => by
    rw [show p = fun _ => m + 1 from funext fun r => by rw [hp r, if_neg (List.not_mem_nil)]]
    unfold stageL
    iintro - HS Hk
    iapply Hk $$ HS
  | r :: l, p, hn, hp => by
    rw [show stageL A0 A1 hA1 A2 hA2 A3 hA3 cc0_scratch2 cc0_scratch3 c m (r :: l) K
      = stg c m r (stageL A0 A1 hA1 A2 hA2 A3 hA3 cc0_scratch2 cc0_scratch3 c m l K) from rfl]
    have ih := stage_list m hm K l (Function.update p r (m + 1)) (List.nodup_cons.mp hn).2 (fun r' => by
      by_cases e : r' = r
      · subst e; rw [Function.update_self, if_neg (List.nodup_cons.mp hn).1]
      · rw [Function.update_of_ne e, hp r']
        by_cases e' : r' ∈ l
        · rw [if_pos e', if_pos (List.mem_cons_of_mem _ e')]
        · rw [if_neg e', if_neg (fun h => (List.mem_cons.mp h).elim e e')])
    have st := stage_step xs κ c (Q := Q) p m hm r (by rw [hp r, if_pos List.mem_cons_self])
      (fun r' => by rw [hp r']; split <;> omega) (stageL A0 A1 hA1 A2 hA2 A3 hA3 cc0_scratch2 cc0_scratch3 c m l K)
    iintro #HC HS Hk
    iapply st $$ HC HS
    iintro HS
    iapply ih $$ HC HS Hk

theorem mem_rings : ∀ r : Fin 8, r ∈ rings := by decide

/-- The stages from `m` on. -/
theorem stage_all (K : PB F) : ∀ (n m : ℕ), m + n ≤ 31 →
    (Ctx xs κ ⊢ iprop(St xs c (fun _ => m) -∗ (St xs c (fun _ => m + n) -∗ WP c K Q)
      -∗ WP c (stages A0 A1 hA1 A2 hA2 A3 hA3 cc0_scratch2 cc0_scratch3 c m n K) Q))
  | 0, m, _ => by
    unfold stages
    iintro - HS Hk
    iapply Hk $$ HS
  | n + 1, m, h => by
    rw [show stages A0 A1 hA1 A2 hA2 A3 hA3 cc0_scratch2 cc0_scratch3 c m (n + 1) K
      = stageL A0 A1 hA1 A2 hA2 A3 hA3 cc0_scratch2 cc0_scratch3 c m rings (stages A0 A1 hA1 A2 hA2 A3 hA3 cc0_scratch2 cc0_scratch3 c (m + 1) n K) from rfl]
    have ih := stage_all K n (m + 1) (by omega)
    rw [show m + 1 + n = m + (n + 1) by omega] at ih
    have st := stage_list xs κ c (Q := Q) m (by omega) (stages A0 A1 hA1 A2 hA2 A3 hA3 cc0_scratch2 cc0_scratch3 c (m + 1) n K) rings (fun _ => m) (by decide)
      (fun r => by rw [if_pos (mem_rings r)])
    iintro #HC HS Hk
    iapply st $$ HC HS
    iintro HS
    iapply ih $$ HC HS Hk

/-! ## The last waits -/

omit [FloatOps F] in
theorem big_cons (r : Fin 8) (l : List (Fin 8)) (Φ : Fin 8 → sProp 𝕄) : bigSepL (r :: l) Φ = iprop(Φ r ∗ bigSepL l Φ) := bigSepL_cons _ _ _

/-- The waits for message `k` of the rings listed. -/
theorem drain_list (k : ℕ) (hk : k < 30) (p : Fin 8 → ℕ) (K : PB F) : ∀ (l : List (Fin 8)),
    (Ctx xs κ ⊢ iprop(owesW c (oweR c p) -∗ (bigSepL l fun r => Leav c r k)
      -∗ (owesW c (oweR c p) -∗ (bigSepL l fun r => iprop(atPos ER (sendC c r (slotOf k)) (sndRnd k + 1) ∅ 0 ∗ sendPay xs c r k)) -∗ WP c K Q)
      -∗ WP c (drainL A1 hA1 A2 hA2 A3 hA3 cc0_scratch2 c k l K) Q))
  | [] => by
    unfold drainL
    iintro - HO - Hk
    iapply Hk $$ HO
    rw [bigSepL_nil]; iempintro
  | r :: l => by
    rw [show drainL A1 hA1 A2 hA2 A3 hA3 cc0_scratch2 c k (r :: l) K
      = opWaitSend A1 hA1 A2 hA2 A3 hA3 cc0_scratch2 c r k (drainL A1 hA1 A2 hA2 A3 hA3 cc0_scratch2 c k l K) from rfl, big_cons, big_cons]
    have ih := drain_list k hk p K l
    unfold Leav at ih
    unfold Leav
    iintro #HC HO ⟨⟨Hc, Hat⟩, HL⟩ Hk
    iapply (wp_opWaitSend xs κ c r k hk p _) $$ [HO Hc Hat]
    · isplitr; · iexact HC
      isplitl [Hc]; · iexact Hc
      isplitl [HO] <;> iassumption
    iintro HO Hat - Hp
    iapply ih $$ HC HO HL
    iintro HO HL
    iapply Hk $$ HO
    isplitl [Hat Hp]
    · isplitl [Hat] <;> iassumption
    · iexact HL

end Stage

end Cert.KernelIdeal.Gen
-- ==== Proof.Memory.lean ====
/- The buffers of a device, cut into the places of the messages and put together again. -/
module

public import proofs.«01_k».proof.Proof.Ring

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

omit [FloatOps F] in
theorem toE {P Q : sProp (MT nD τ sig ℕ (Elt F) ℕ UU ℕ)} (h : P ⊢ Q) : Idealize.SL.BI.Entails P Q := h

/-! ## The cuts -/

theorem seed_disj (r r' : Fin 8) (h : r ≠ r') : Disjoint (seedR r).set (seedR r').set :=
  Rect.disjoint_of_axis _ _ (0 : Fin 3) fun a ha b hb => by
    have ha' : a < 1 := ha
    have hb' : b < 1 := hb
    show r.val + 1 * a ≠ r'.val + 1 * b
    intro e; exact h (Fin.ext (by omega))
theorem comm_disj (t t' : Fin 8 × Fin 15) (h : t ≠ t') : Disjoint (commR t.1 t.2).set (commR t'.1 t'.2).set := by
  by_cases h1 : t.1 = t'.1
  · refine Rect.disjoint_of_axis _ _ (1 : Fin 4) fun a ha b hb => ?_
    have ha' : a < 1 := ha
    have hb' : b < 1 := hb
    show t.2.val + 1 * a ≠ t'.2.val + 1 * b
    intro e; exact h (Prod.ext h1 (Fin.ext (by omega)))
  · refine Rect.disjoint_of_axis _ _ (0 : Fin 4) fun a ha b hb => ?_
    have ha' : a < 1 := ha
    have hb' : b < 1 := hb
    show t.1.val + 1 * a ≠ t'.1.val + 1 * b
    intro e; exact h1 (Fin.ext (by omega))
theorem out_disj (t t' : Fin 8 × Fin 16) (h : t ≠ t') : Disjoint (cR t.1 t.2).set (cR t'.1 t'.2).set :=
  Rect.disjoint_of_axis _ _ (0 : Fin 2) fun a ha b hb => by
    have ha' : a < 32 := ha
    have hb' : b < 32 := hb
    show 512 * t.1.val + 32 * t.2.val + 1 * a ≠ 512 * t'.1.val + 32 * t'.2.val + 1 * b
    have l1 := t.2.isLt
    have l2 := t'.2.isLt
    intro e; exact h (Prod.ext (Fin.ext (by omega)) (Fin.ext (by omega)))

theorem cover_of {T : Type} [Fintype T] [DecidableEq T] {s : Shape} (r : T → Rect s) (h : ∀ i, ∃ t, i ∈ (r t).set) :
    (Finset.univ : Finset T).biUnion (fun t => (r t).set) = Finset.univ := by
  ext i
  obtain ⟨t, ht⟩ := h i
  exact ⟨fun _ => Finset.mem_univ _, fun _ => Finset.mem_biUnion.mpr ⟨t, Finset.mem_univ _, ht⟩⟩

theorem seed_cov : (Finset.univ : Finset (Fin 8)).biUnion (fun t => (seedR t).set) = Finset.univ :=
  cover_of _ fun i => ⟨⟨(i (0 : Fin 3)).val, (i (0 : Fin 3)).isLt⟩, Rect.mem_set_unit.mpr fun a => by
    fin_cases a
    · exact ⟨Nat.le_refl _, Nat.lt_succ_self _⟩
    · exact ⟨Nat.zero_le _, by show (i (1 : Fin 3)).val < 0 + 32; rw [Nat.zero_add]; exact (i (1 : Fin 3)).isLt⟩
    · exact ⟨Nat.zero_le _, by show (i (2 : Fin 3)).val < 0 + 1024; rw [Nat.zero_add]; exact (i (2 : Fin 3)).isLt⟩⟩
theorem comm_cov : (Finset.univ : Finset (Fin 8 × Fin 15)).biUnion (fun t => (commR t.1 t.2).set) = Finset.univ :=
  cover_of _ fun i => ⟨(⟨(i (0 : Fin 4)).val, (i (0 : Fin 4)).isLt⟩, ⟨(i (1 : Fin 4)).val, (i (1 : Fin 4)).isLt⟩), Rect.mem_set_unit.mpr fun a => by
    fin_cases a
    · exact ⟨Nat.le_refl _, Nat.lt_succ_self _⟩
    · exact ⟨Nat.le_refl _, Nat.lt_succ_self _⟩
    · exact ⟨Nat.zero_le _, by show (i (2 : Fin 4)).val < 0 + 32; rw [Nat.zero_add]; exact (i (2 : Fin 4)).isLt⟩
    · exact ⟨Nat.zero_le _, by show (i (3 : Fin 4)).val < 0 + 1024; rw [Nat.zero_add]; exact (i (3 : Fin 4)).isLt⟩⟩

/-- The chunk a row lies in, and where in it. -/
def rowR (i : S4096x1024.Idx) : Fin 8 := ⟨(i (0 : Fin 2)).val / 512, by have : (i (0 : Fin 2)).val < 4096 := (i (0 : Fin 2)).isLt; omega⟩
def rowJ (i : S4096x1024.Idx) : Fin 16 := ⟨(i (0 : Fin 2)).val % 512 / 32, by omega⟩
def inChunk (i : S4096x1024.Idx) : S32x1024.Idx := fun | (0 : Fin 2) => (⟨(i (0 : Fin 2)).val % 32, by omega⟩ : Fin 32) | (1 : Fin 2) => i (1 : Fin 2)
theorem emb_inChunk (i : S4096x1024.Idx) : (cR (rowR i) (rowJ i)).emb (inChunk i) = i := by
  funext a
  apply Fin.ext
  fin_cases a
  · show 512 * ((i (0 : Fin 2)).val / 512) + 32 * ((i (0 : Fin 2)).val % 512 / 32) + 1 * ((i (0 : Fin 2)).val % 32) = (i (0 : Fin 2)).val
    omega
  · show 0 + 1 * (i (1 : Fin 2)).val = (i (1 : Fin 2)).val
    omega
theorem chunk_emb (r : Fin 8) (j : Fin 16) (k : S32x1024.Idx) :
    rowR ((cR r j).emb k) = r ∧ rowJ ((cR r j).emb k) = j ∧ inChunk ((cR r j).emb k) = k := by
  have l : (k (0 : Fin 2)).val < 32 := (k (0 : Fin 2)).isLt
  have e0 : ((cR r j).emb k (0 : Fin 2)).val = 512 * r.val + 32 * j.val + 1 * (k (0 : Fin 2)).val := rfl
  have e1 : ((cR r j).emb k (1 : Fin 2)).val = 0 + 1 * (k (1 : Fin 2)).val := rfl
  refine ⟨Fin.ext ?_, Fin.ext ?_, funext fun a => Fin.ext ?_⟩
  · show ((cR r j).emb k (0 : Fin 2)).val / 512 = r.val
    omega
  · show ((cR r j).emb k (0 : Fin 2)).val % 512 / 32 = j.val
    omega
  · fin_cases a
    · show ((cR r j).emb k (0 : Fin 2)).val % 32 = (k (0 : Fin 2)).val
      omega
    · show ((cR r j).emb k (1 : Fin 2)).val = (k (1 : Fin 2)).val
      omega
theorem out_cov : (Finset.univ : Finset (Fin 8 × Fin 16)).biUnion (fun t => (cR t.1 t.2).set) = Finset.univ :=
  cover_of _ fun i => ⟨(rowR i, rowJ i), by
    rw [← Rect.map_emb_univ]
    exact Finset.mem_map.mpr ⟨inChunk i, Finset.mem_univ _, emb_inChunk i⟩⟩

/-! ## Cutting and joining -/

section Join
variable (c : Thread nD τ) {sp : Space} {sh : Shape} {e : EltTy} (m : Memref sig c.2.kind sp sh e) (q : PosShare TreeShare)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

/-- Parts at any contents make the whole at some. -/
theorem parts_join : (bigSep Finset.univ fun t => iprop(∃ Y, owns c (m.slice (r t) (hr t)) q Y) : sProp 𝕄) ⊢ iprop(∃ X, owns c m q X) := by
  classical
  refine (bigSep_exists_pi Finset.univ fun t (Y : (r t).shape.Idx → Elt F e) => owns c (m.slice (r t) (hr t)) q Y).trans ?_
  iintro ⟨%Y, H⟩
  have inj : ∀ p p' : (t : T) × (r t).shape.Idx, (r p.1).emb p.2 = (r p'.1).emb p'.2 → p = p' := by
    rintro ⟨t, j⟩ ⟨t', j'⟩ h
    by_cases ht : t = t'
    · subst ht; exact congrArg (Sigma.mk t) ((r t).emb.injective h)
    · have h1 : (r t).emb j ∈ (r t).set := by rw [← Rect.map_emb_univ]; exact Finset.mem_map_of_mem _ (Finset.mem_univ _)
      have h2 : (r t).emb j ∈ (r t').set := by rw [show (r t).emb j = (r t').emb j' from h, ← Rect.map_emb_univ]; exact Finset.mem_map_of_mem _ (Finset.mem_univ _)
      exact absurd h2 (Finset.disjoint_left.mp (hd t t' ht) h1)
  let X : sh.Idx → Elt F e := fun i =>
    if h : ∃ p : (t : T) × (r t).shape.Idx, (r p.1).emb p.2 = i then Y h.choose.1 h.choose.2 else Classical.arbitrary _
  have hX : Y = fun t j => X ((r t).emb j) := by
    funext t j
    have h : ∃ p : (t : T) × (r t).shape.Idx, (r p.1).emb p.2 = (r t).emb j := ⟨⟨t, j⟩, rfl⟩
    show _ = dite _ _ _
    rw [dif_pos h, inj h.choose ⟨t, j⟩ h.choose_spec]
  iexists X
  iapply (owns_of_rects c m q r hr hd hcov X)
  rw [hX]
  iexact H
end Join

section Cut
variable (c : Dev nD)

theorem comm_part (r : Fin 8) (s : Fin 15) :
    (iprop(∃ Y, owns (c : Thread nD τ) (A2.slice (commR r s) (fun _ => rfl)) fullShare Y) : sProp 𝕄) = iprop(∃ X, own (F := F) c (commM A2 r s) X) := by
  refine BI.Entails.antisymm ?_ ?_
  · refine toE ?_
    unfold own ownsTc owns
    iintro ⟨%Y, %f, %hf, H⟩
    iexists _; iexists f
    isplitr; · ipureintro; rfl
    rw [show (commM A2 r s).view.set = (A2.slice (commR r s) (fun _ => rfl)).view.set from View.set_reshape _ _]
    iexact H
  · refine toE ?_
    unfold own ownsTc owns
    iintro ⟨%Y, %f, %hf, H⟩
    iexists _; iexists f
    isplitr; · ipureintro; rfl
    rw [show (commM A2 r s).view.set = (A2.slice (commR r s) (fun _ => rfl)).view.set from View.set_reshape _ _]
    iexact H
theorem seed_part (r : Fin 8) :
    (iprop(∃ Y, owns (c : Thread nD τ) (A3.slice (seedR r) (fun _ => rfl)) fullShare Y) : sProp 𝕄) = iprop(∃ X, own (F := F) c (seedM A3 r) X) := by
  refine BI.Entails.antisymm ?_ ?_
  · refine toE ?_
    unfold own ownsTc owns
    iintro ⟨%Y, %f, %hf, H⟩
    iexists _; iexists f
    isplitr; · ipureintro; rfl
    rw [show (seedM A3 r).view.set = (A3.slice (seedR r) (fun _ => rfl)).view.set from View.set_reshape _ _]
    iexact H
  · refine toE ?_
    unfold own ownsTc owns
    iintro ⟨%Y, %f, %hf, H⟩
    iexists _; iexists f
    isplitr; · ipureintro; rfl
    rw [show (seedM A3 r).view.set = (A3.slice (seedR r) (fun _ => rfl)).view.set from View.set_reshape _ _]
    iexact H

theorem comm_cut (X : S8x15x32x1024.Idx → Elt F .bf16) :
    (ownsTc c A2 fullShare X : sProp 𝕄) ⊢ bigSep Finset.univ fun r : Fin 8 => bigSep Finset.univ fun s : Fin 15 => iprop(∃ X, own (F := F) c (commM A2 r s) X) := by
  refine (owns_rects (c : Thread nD τ) A2 fullShare (fun t : Fin 8 × Fin 15 => commR t.1 t.2) (fun _ _ => rfl) comm_disj comm_cov X).trans ?_
  rw [bigSep_univ_prod]
  refine bigSep_mono fun r _ => bigSep_mono fun s _ => ?_
  rw [← comm_part]
  refine toE ?_
  iintro H; iexists _; iexact H
theorem comm_join :
    (bigSep Finset.univ fun r : Fin 8 => bigSep Finset.univ fun s : Fin 15 => iprop(∃ X, own (F := F) c (commM A2 r s) X)) ⊢ (iprop(∃ X, ownsTc c A2 fullShare X) : sProp 𝕄) := by
  refine BI.Entails.trans ?_ (parts_join (c : Thread nD τ) A2 fullShare (fun t : Fin 8 × Fin 15 => commR t.1 t.2) (fun _ _ => rfl) comm_disj comm_cov)
  rw [bigSep_univ_prod]
  refine bigSep_mono fun r _ => bigSep_mono fun s _ => ?_
  rw [← comm_part]
  exact toE (Entails.rfl)
theorem seed_cut (X : S8x32x1024.Idx → Elt F .bf16) :
    (ownsTc c A3 fullShare X : sProp 𝕄) ⊢ bigSep Finset.univ fun r : Fin 8 => iprop(∃ X, own (F := F) c (seedM A3 r) X) := by
  refine (owns_rects (c : Thread nD τ) A3 fullShare seedR (fun _ _ => rfl) seed_disj seed_cov X).trans ?_
  refine bigSep_mono fun r _ => ?_
  rw [← seed_part]
  refine toE ?_
  iintro H; iexists _; iexact H
theorem seed_join :
    (bigSep Finset.univ fun r : Fin 8 => iprop(∃ X, own (F := F) c (seedM A3 r) X)) ⊢ (iprop(∃ X, ownsTc c A3 fullShare X) : sProp 𝕄) := by
  refine BI.Entails.trans ?_ (parts_join (c : Thread nD τ) A3 fullShare seedR (fun _ _ => rfl) seed_disj seed_cov)
  refine bigSep_mono fun r _ => ?_
  rw [← seed_part]
  exact toE (Entails.rfl)
theorem out_cut (X : S4096x1024.Idx → Elt F .bf16) :
    (ownsTc c A1 fullShare X : sProp 𝕄) ⊢ bigSep Finset.univ fun r : Fin 8 => bigSep Finset.univ fun j : Fin 16 => iprop(∃ X, own (F := F) c (outC r j) X) := by
  refine (owns_rects (c : Thread nD τ) A1 fullShare (fun t : Fin 8 × Fin 16 => cR t.1 t.2) (fun _ _ => rfl) out_disj out_cov X).trans ?_
  rw [bigSep_univ_prod]
  refine bigSep_mono fun r _ => bigSep_mono fun j _ => ?_
  refine toE ?_
  iintro H; iexists _; iexact H

/-- The device that finishes chunk `j` of ring `r`. -/
def owner (r : Fin 8) (j : Fin 16) : Dev nD := if r.val < 4 then devAt (j + 15) else devAt (j + 1)
theorem owner_own : ∀ (d : Dev nD) (r : Fin 8), owner r (hIdx d r 0) = d := by decide +kernel

variable (xs : Dev nD → S4096x1024.Idx → Elt F .bf16)

/-- What the result holds. -/
def FIN : S4096x1024.Idx → Elt F .bf16 := fun i => msgV xs 15 (rowR i) (owner (rowR i) (rowJ i)) (inChunk i)

theorem out_join :
    (bigSep Finset.univ fun r : Fin 8 => bigSep Finset.univ fun j : Fin 16 => own c (outC r j) (msgV xs 15 r (owner r j))) ⊢ (ownsTc c A1 fullShare (FIN xs) : sProp 𝕄) := by
  refine BI.Entails.trans ?_ (owns_of_rects (c : Thread nD τ) A1 fullShare (fun t : Fin 8 × Fin 16 => cR t.1 t.2) (fun _ _ => rfl) out_disj out_cov (FIN xs))
  rw [bigSep_univ_prod]
  refine bigSep_mono fun r _ => bigSep_mono fun j _ => ?_
  rw [show (fun k => FIN xs ((cR r j).emb k)) = msgV xs 15 r (owner r j) from funext fun k => by
    obtain ⟨h1, h2, h3⟩ := chunk_emb r j k
    unfold FIN; rw [h1, h2, h3]]
  exact toE (Entails.rfl)

/-- A chunk passed on is its owner's. -/
theorem msgV_owner (r : Fin 8) : ∀ (g : ℕ), g < 16 → ∀ d : Dev nD, msgV xs (15 + g) r d = msgV xs 15 r (owner r (hIdx d r g))
  | 0, _, d => by rw [owner_own]
  | g + 1, h, d => by
    rw [hIdx_up d r ⟨g, by omega⟩, ← msgV_owner r g (by omega) (up d r)]
    exact msgV_pass xs (by omega : 15 ≤ 15 + g) r d

/-! ## The places of one ring -/

theorem half30 (f : ℕ → sProp 𝕄) : bigSep (Finset.range 30) f
    = iprop((bigSep Finset.univ fun s : Fin 15 => f s.val) ∗ bigSep Finset.univ fun g : Fin 15 => f (15 + g.val)) := by
  have e : Finset.range 30 = Finset.univ.map ⟨fun s : Fin 15 => s.val, fun a b h => Fin.ext h⟩
      ∪ Finset.univ.map ⟨fun s : Fin 15 => 15 + s.val, fun a b h => Fin.ext (Nat.add_left_cancel h)⟩ := by decide +kernel
  rw [e, bigSep_union (by decide +kernel), bigSep_map, bigSep_map]
  rfl
theorem fin_first {n : ℕ} (f : Fin (n + 1) → sProp 𝕄) : bigSep Finset.univ f = iprop(f 0 ∗ bigSep Finset.univ fun i : Fin n => f i.succ) := by
  rw [Fin.univ_succ, Finset.cons_eq_insert, bigSep_insert (by simp [Fin.succ_ne_zero]), bigSep_map]
  rfl
theorem fin_last {n : ℕ} (f : Fin (n + 1) → sProp 𝕄) : bigSep Finset.univ f = iprop(f (Fin.last n) ∗ bigSep Finset.univ fun i : Fin n => f i.castSucc) := by
  rw [Fin.univ_castSuccEmb, Finset.cons_eq_insert, bigSep_insert (by simp), bigSep_map]
  rfl
/-- The chunks of a ring in the order of `d`'s messages. -/
theorem by_hIdx (d : Dev nD) (r : Fin 8) (f : Fin 16 → sProp 𝕄) : bigSep Finset.univ f = bigSep Finset.univ fun g : Fin 16 => f (hIdx d r g.val) :=
  bigSep_univ_equiv (Equiv.ofBijective (fun g : Fin 16 => hIdx d r g.val) ⟨fun a b h => hIdx_inj d r a b h, fun j => hIdx_bij d r j⟩) f

/-- The places of ring `r` on `c`: those its sender writes, and the chunk `c` finishes. -/
theorem ring_cut (r : Fin 8) :
    iprop((bigSep Finset.univ fun s : Fin 15 => iprop(∃ X, own (F := F) c (commM A2 r s) X)) ∗ bigSep Finset.univ fun j : Fin 16 => iprop(∃ X, own (F := F) c (outC r j) X))
      ⊢ (iprop((bigSep (Finset.range 30) fun k => iprop(∃ X, own (F := F) c (dst (up c r) r k) X)) ∗ ∃ X, own (F := F) c (src c r 15) X) : sProp 𝕄) := by
  rw [half30, by_hIdx c r, fin_first (n := 15),
    bigSep_congr (s := Finset.univ) (Φ := fun s : Fin 15 => iprop(∃ X, own (F := F) c (dst (up c r) r s.val) X)) (Ψ := fun s => iprop(∃ X, own (F := F) c (commM A2 r s) X))
      fun s _ => by rw [dst_comm _ _ s.isLt, show mod15 s.val = s from Fin.ext (Nat.mod_eq_of_lt s.isLt)],
    bigSep_congr (s := Finset.univ) (Φ := fun g : Fin 15 => iprop(∃ X, own (F := F) c (dst (up c r) r (15 + g.val)) X))
      (Ψ := fun g : Fin 15 => iprop(∃ X, own (F := F) c (outC r (hIdx c r g.succ.val)) X))
      fun g _ => by rw [dst_out, show g.succ.val = g.val + 1 from rfl, hIdx_up c r g],
    show src c r 15 = outC r (hIdx c r (0 : Fin 16).val) from src_out c r 0]
  iintro ⟨H1, H2, H3⟩
  isplitr [H2]
  · isplitl [H1] <;> iassumption
  · iexact H2

/-- All that ring `r` gives back at the end. -/
theorem ring_join (r : Fin 8) :
    iprop((bigSep (Finset.range 30) (sendPay xs c r)) ∗ (∃ X, own (F := F) c (dst (up c r) r 14) X) ∗ own c (dst (up c r) r 29) (msgV xs 29 r (up c r)))
      ⊢ (iprop((∃ X, own (F := F) c (seedM A3 r) X) ∗ (bigSep Finset.univ fun s : Fin 15 => iprop(∃ X, own (F := F) c (commM A2 r s) X))
        ∗ bigSep Finset.univ fun j : Fin 16 => own c (outC r j) (msgV xs 15 r (owner r j))) : sProp 𝕄) := by
  rw [half30, by_hIdx c r (fun j => own c (outC r j) (msgV xs 15 r (owner r j))), fin_last (n := 15),
    fin_first (n := 14) (fun s => sendPay xs c r s.val), fin_last (n := 14) (fun s => iprop(∃ X, own (F := F) c (commM A2 r s) X)),
    dst_comm _ _ (by omega : 14 < 15), show dst (up c r) r 29 = outC r (hIdx c r 15) by
      rw [show (29 : ℕ) = 15 + (14 : Fin 15).val from rfl, dst_out]; congr 1; exact (hIdx_up c r 14).symm,
    ← msgV_pass xs (by omega : 15 ≤ 29) r c, show (29 + 1 : ℕ) = 15 + 15 from rfl, msgV_owner xs r 15 (by omega) c,
    bigSep_congr (s := Finset.univ) (Φ := fun g : Fin 15 => sendPay xs c r (15 + g.val))
      (Ψ := fun g : Fin 15 => own c (outC r (hIdx c r g.castSucc.val)) (msgV xs 15 r (owner r (hIdx c r g.castSucc.val))))
      fun g _ => by unfold sendPay; rw [src_out, msgV_owner xs r g.val (by omega) c]; rfl]
  have hc : (bigSep Finset.univ fun s : Fin 14 => sendPay xs c r s.succ.val) ⊢ (bigSep Finset.univ fun s : Fin 14 => iprop(∃ X, own (F := F) c (commM A2 r s.castSucc) X)) :=
    bigSep_mono fun s _ => by
      unfold sendPay
      rw [src_comm c r (by show s.val + 1 ≠ 0; omega) (by show s.val + 1 < 15; omega),
        show mod15 (s.succ.val - 1) = s.castSucc from Fin.ext (by show (s.val + 1 - 1) % 15 = s.val; omega)]
      refine toE ?_
      iintro H; iexists _; iexact H
  iintro ⟨⟨⟨H0, Hs⟩, Ho⟩, H14, H29⟩
  isplitl [H0]
  · iexists _; unfold sendPay; rw [show src c r ((0 : Fin 15).val) = seedM A3 r from src_zero c r]; iexact H0
  isplitl [Hs H14]
  · isplitl [H14]; · iexact H14
    iapply hc $$ Hs
  · isplitl [H29]; · iexact H29
    iexact Ho

end Cut

end Cert.KernelIdeal.Gen
-- ==== Proof.Whole.lean ====
/- A device's whole body: the handshake, the stages, the last waits. -/
module

public import proofs.«01_k».proof.Proof.Stage
public import proofs.«01_k».proof.Proof.Memory

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

omit [FloatOps F] in
/-- Over the semaphores of a device, kind by kind. -/
theorem big_CK (Φ : CK → sProp 𝕄) : bigSep Finset.univ Φ
    = iprop(Φ (.inl ()) ∗ (bigSep Finset.univ fun r : Fin 8 => bigSep Finset.univ fun b : Fin 2 => Φ (.inr (.inl (r, b))))
      ∗ bigSep Finset.univ fun r : Fin 8 => bigSep Finset.univ fun s : Fin 15 => Φ (.inr (.inr (r, s)))) := by
  rw [bigSep_univ_sum, bigSep_univ_sum, bigSep_univ_prod, bigSep_univ_prod, show (Finset.univ : Finset Unit) = {()} from rfl, bigSep_singleton]
  rfl

section Whole
variable (xs : Dev nD → S4096x1024.Idx → Elt F .bf16) (κ : Dev nD × CK → ℕ) (c : Dev nD) {Q : PUnit.{1} → sProp (MT nD τ sig ℕ (Elt F) ℕ UU ℕ)}

/-! ## What a device starts with -/

/-- What pays for message `k` of ring `r`. -/
def Tok (r : Fin 8) (k : ℕ) : sProp 𝕄 :=
  iprop(dutyTok ER (sendC c r (slotOf k)) (sndRnd k) false ∗ dutyTok ER (recvC (dn c r) r (mod15 k)) (k / 15) false)
def RingStart (r : Fin 8) : sProp 𝕄 :=
  iprop((bigSep (Finset.range 30) (Tok (F := F) c r)) ∗ Crs c r 0 ∗ Poss c r 0 ∗ SPs c r 0)
def Start : sProp 𝕄 :=
  iprop(atPos ER (barC c) 0 ∅ 0 ∗ dutyTok ER (barC (lf c)) 0 false ∗ dutyTok ER (barC (rt c)) 0 true ∗ cred (tallyAt (barC c) 0 2)
    ∗ bigSep Finset.univ (RingStart (F := F) c))

omit [FloatOps F] in
/-- What a device lends its neighbours. -/
theorem lend : (bigSep Finset.univ fun r : Fin 8 => bigSep (Finset.range 30) fun k => iprop(∃ X, own (F := F) c (dst (up c r) r k) X))
    ⊢ (iprop(barPay (lf c) false ∗ barPay (rt c) true) : sProp 𝕄) := by
  unfold barPay
  rw [bigSep_filter_split Finset.univ (fun r : Fin 8 => decide (r.val < 4) = !false)]
  refine BI.sep_mono (bigSep_mono fun r hr => ?_) ?_
  · have h : r.val < 4 := of_decide_eq_true (Finset.mem_filter.mp hr).2
    rw [show up c r = lf c from if_pos h, show dn (lf c) r = c from (if_pos h).trans (rt_lf c)]
    exact toE Entails.rfl
  · rw [show (Finset.univ.filter fun r : Fin 8 => ¬ decide (r.val < 4) = !false) = Finset.univ.filter fun r : Fin 8 => decide (r.val < 4) = !true by decide]
    refine bigSep_mono fun r hr => ?_
    have h : ¬ r.val < 4 := of_decide_eq_false (Finset.mem_filter.mp hr).2
    rw [show up c r = rt c from if_neg h, show dn (rt c) r = c from (if_neg h).trans (lf_rt c)]
    exact toE Entails.rfl
omit [FloatOps F] in
/-- What it is lent. -/
theorem lent : iprop(barPay (F := F) c false ∗ barPay c true)
    ⊢ (bigSep Finset.univ fun r : Fin 8 => bigSep (Finset.range 30) fun k => iprop(∃ X, own (F := F) (dn c r) (dst c r k) X)) := by
  unfold barPay
  rw [bigSep_filter_split Finset.univ (fun r : Fin 8 => decide (r.val < 4) = !false),
    show (Finset.univ.filter fun r : Fin 8 => ¬ decide (r.val < 4) = !false) = Finset.univ.filter fun r : Fin 8 => decide (r.val < 4) = !true by decide]
  exact toE Entails.rfl

/-- The three buffers, cut. -/
theorem cut_all : iprop((∃ X, ownsTc c A1 fullShare X) ∗ (∃ X, ownsTc c A2 fullShare X) ∗ (∃ X, ownsTc c A3 fullShare X))
    ⊢ (iprop((bigSep Finset.univ fun r : Fin 8 => bigSep (Finset.range 30) fun k => iprop(∃ X, own (F := F) c (dst (up c r) r k) X))
      ∗ (bigSep Finset.univ fun r : Fin 8 => iprop(∃ X, own (F := F) c (src c r 15) X))
      ∗ bigSep Finset.univ fun r : Fin 8 => iprop(∃ X, own (F := F) c (src c r 0) X)) : sProp 𝕄) := by
  have hr := (Entails.of_eq (bigSep_sep' (M := 𝕄) Finset.univ (fun r : Fin 8 => bigSep Finset.univ fun s : Fin 15 => iprop(∃ X, own (F := F) c (commM A2 r s) X))
      (fun r : Fin 8 => bigSep Finset.univ fun j : Fin 16 => iprop(∃ X, own (F := F) c (outC r j) X))).symm).trans
    ((bigSep_mono fun r _ => ring_cut (F := F) c r).trans (Entails.of_eq (bigSep_sep' _ _ _)))
  have hz : (bigSep Finset.univ fun r : Fin 8 => iprop(∃ X, own (F := F) c (seedM A3 r) X))
      ⊢ (bigSep Finset.univ fun r : Fin 8 => iprop(∃ X, own (F := F) c (src c r 0) X)) :=
    Entails.of_eq (bigSep_congr fun r _ => by rw [src_zero])
  iintro ⟨⟨%X1, H1⟩, ⟨%X2, H2⟩, ⟨%X3, H3⟩⟩
  ihave H1 := (out_cut c X1) $$ H1
  ihave H2 := (comm_cut c X2) $$ H2
  ihave H3 := (seed_cut c X3) $$ H3
  ihave H := hr $$ [H1 H2]
  · isplitl [H2] <;> iassumption
  icases H with ⟨Ha, Hb⟩
  isplitl [Ha]; · iexact Ha
  isplitl [Hb]; · iexact Hb
  iapply hz $$ H3

theorem uns_start (r : Fin 8) : iprop((bigSep (Finset.range 30) (Tok (F := F) c r)) ∗ bigSep (Finset.range 30) fun k => iprop(∃ X, own (F := F) (dn c r) (dst c r k) X))
    ⊢ (Uns c r 0 : sProp 𝕄) := by
  unfold Uns
  rw [← bigSep_sep', show Finset.Ico 0 30 = Finset.range 30 by decide +kernel]
  refine bigSep_mono fun k _ => ?_
  unfold Tok Unsent
  refine toE ?_
  iintro ⟨⟨H1, H2⟩, H3⟩
  isplitl [H1]; · iexact H1
  isplitl [H2] <;> iassumption

theorem rs_start (r : Fin 8) :
    iprop(RingStart c r ∗ (bigSep (Finset.range 30) fun k => iprop(∃ X, own (F := F) (dn c r) (dst c r k) X))
      ∗ (∃ X, own (F := F) c (src c r 15) X) ∗ ∃ X, own (F := F) c (src c r 0) X) ⊢ RS xs c r 0 := by
  unfold RingStart RS
  rw [show Lvs (F := F) c r (infl 0) = iprop(emp) by unfold Lvs; rw [infl_zero, bigSep_empty]; rfl,
    show Gone xs c r 0 = iprop(emp) by unfold Gone; rw [gone_zero, bigSep_empty]; rfl,
    show E1 (F := F) c r 0 = iprop(∃ X, own (F := F) c (src c r 0) X) from if_pos rfl,
    show E2 (F := F) c r 0 = iprop(∃ X, own (F := F) c (src c r 15) X) from if_pos (by omega),
    show E3 (F := F) c r 0 = iprop(emp) from if_pos (by omega), show E4 xs c r 0 = iprop(emp) from if_pos (by omega)]
  iintro ⟨⟨Ht, Hc, Hp, Hs⟩, Hd, H2, H1⟩
  isplitl [Ht Hd]
  · iapply (uns_start c r); isplitl [Ht] <;> iassumption
  isplitr; · iempintro
  isplitr; · iempintro
  isplitl [Hc]; · iexact Hc
  isplitl [Hp]; · iexact Hp
  isplitl [Hs]; · iexact Hs
  isplitl [H1]; · iexact H1
  isplitl [H2]; · iexact H2
  isplitr <;> iempintro

omit [FloatOps F] in
theorem fk_start : ⊢ (bigSep Finset.univ fun r : Fin 8 => FK (F := F) c r 0 : sProp 𝕄) := by
  have h : (iprop(emp) : sProp 𝕄) ⊢ bigSep (Finset.univ : Finset (Fin 8)) fun _ => iprop(emp) := BI.bigSep_of_persistent Finset.univ iprop(emp)
  refine h.trans (bigSep_mono fun r _ => ?_)
  refine toE ?_
  unfold FK
  iintro -
  isplitr
  · iapply (Facts_zero (F := F) c r)
  · iapply (Facts_zero (F := F) (up c r) (pair r))

/-- The state before the first stage. -/
theorem st_start :
    iprop(ownX xs c ∗ owesW c (oweR c fun _ => 0) ∗ bigSep Finset.univ (RingStart (F := F) c)
      ∗ (bigSep Finset.univ fun r : Fin 8 => bigSep (Finset.range 30) fun k => iprop(∃ X, own (F := F) (dn c r) (dst c r k) X))
      ∗ (bigSep Finset.univ fun r : Fin 8 => iprop(∃ X, own (F := F) c (src c r 15) X))
      ∗ bigSep Finset.univ fun r : Fin 8 => iprop(∃ X, own (F := F) c (src c r 0) X)) ⊢ St xs c (fun _ => 0) := by
  unfold St
  rw [← bigSep_sep', ← bigSep_sep', ← bigSep_sep']
  iintro ⟨HX, HO, H⟩
  isplitl [HX]; · iexact HX
  isplitl [HO]; · iexact HO
  isplitl [H]
  · iapply (show _ ⊢ _ from bigSep_mono fun r _ => rs_start xs c r) $$ H
  · iapply (fk_start (F := F) c)

/-! ## The end -/

/-- The round each semaphore ends at. -/
def endR : CK → ℕ
  | .inl _ => 1
  | .inr (.inl p) => sndLen p.2
  | .inr (.inr _) => 2
theorem duties_end : ∀ (k : CK) (ρ : ℕ), endR k ≤ ρ → (Rd xs).duties (kcell (c, k)) ρ = ∅
  | .inl (), ρ, h => duties_bar_later xs c ρ h
  | .inr (.inl (r, b)), ρ, h => (duties_send xs c r b ρ).trans (if_neg (not_lt.mpr h))
  | .inr (.inr (r, s)), ρ, h => (duties_recv xs c r s ρ).trans (if_neg (not_lt.mpr h))

theorem close_all : iprop(Ctx xs κ ∗ bigSep Finset.univ fun k : CK => atPos ER (kcell (c, k)) (endR k) ∅ 0)
    ⊢ (|={Set.univ}=> bigSep Finset.univ fun k : CK => semVal (kcell (c, k)) 0 : sProp 𝕄) := by
  refine (sep_mono_left (BI.bigSep_of_persistent (Finset.univ : Finset CK) (Ctx xs κ))).trans ?_
  rw [← bigSep_sep']
  refine (bigSep_mono fun k _ => ?_).trans (bigSep_fupd _ _)
  refine toE ?_
  iintro ⟨#HC, Hat⟩
  ihave HI := (Ctx_cell xs κ (c, k)) $$ HC
  icases HI with ⟨HI, -⟩
  iapply (Rounds.cell_close ER (Rd xs) (Set.mem_univ (κ (c, k))) (fun h => h) (R := endR k) (duties_end xs c k))
  isplitl [HI] <;> iassumption

/-- What ring `r` has left at the end. -/
theorem rs_end (r : Fin 8) : RS xs c r 31 ⊢ iprop(Leav c r 29 ∗ Leav c r 28 ∗ (bigSep (Finset.range 28) (sendPay xs c r)) ∗ Poss c r 30
    ∗ (∃ X, own (F := F) c (dst (up c r) r 14) X) ∗ own c (dst (up c r) r 29) (msgV xs 29 r (up c r))) := by
  unfold RS
  rw [show Lvs (F := F) c r (infl 31) = iprop(Leav c r 28 ∗ Leav c r 29) by
      unfold Lvs; rw [infl_end, big_insert (by decide), bigSep_singleton],
    show Gone xs c r 31 = bigSep (Finset.range 28) (sendPay xs c r) by unfold Gone; rw [gone_end],
    show E3 (F := F) c r 31 = iprop(∃ X, own (F := F) c (dst (up c r) r 14) X) from if_neg (by omega),
    show E4 xs c r 31 = own c (dst (up c r) r 29) (msgV xs 29 r (up c r)) from if_neg (by omega)]
  iintro ⟨-, ⟨H28, H29⟩, HG, -, HP, -, -, -, H3, H4⟩
  isplitl [H29]; · iexact H29
  isplitl [H28]; · iexact H28
  isplitl [HG]; · iexact HG
  isplitl [HP]; · iexact HP
  isplitl [H3]; · iexact H3
  iexact H4

/-- What ring `r` gives back when its last two messages have left. -/
theorem ring_end (r : Fin 8) :
    iprop((atPos ER (sendC c r (slotOf 29)) (sndRnd 29 + 1) ∅ 0 ∗ sendPay xs c r 29) ∗ (atPos ER (sendC c r (slotOf 28)) (sndRnd 28 + 1) ∅ 0 ∗ sendPay xs c r 28)
      ∗ (bigSep (Finset.range 28) (sendPay xs c r)) ∗ Poss c r 30
      ∗ (∃ X, own (F := F) c (dst (up c r) r 14) X) ∗ own c (dst (up c r) r 29) (msgV xs 29 r (up c r)))
    ⊢ (iprop((bigSep Finset.univ fun b : Fin 2 => atPos ER (sendC c r b) (sndLen b) ∅ 0) ∗ (bigSep Finset.univ fun s : Fin 15 => atPos ER (recvC c r s) 2 ∅ 0)
      ∗ (∃ X, own (F := F) c (seedM A3 r) X) ∗ (bigSep Finset.univ fun s : Fin 15 => iprop(∃ X, own (F := F) c (commM A2 r s) X))
      ∗ bigSep Finset.univ fun j : Fin 16 => own c (outC r j) (msgV xs 15 r (owner r j))) : sProp 𝕄) := by
  have hP : Poss (F := F) c r 30 = bigSep Finset.univ fun s : Fin 15 => atPos ER (recvC c r s) 2 ∅ 0 := by
    unfold Poss
    exact bigSep_congr fun s _ => by rw [show posAt 30 s = 2 by unfold posAt; rw [if_neg (by omega), if_neg (by omega)]]
  have hj := ring_join c xs r
  rw [bigSep_range_succ, bigSep_range_succ] at hj
  have h2 : (bigSep Finset.univ fun b : Fin 2 => atPos ER (sendC c r b) (sndLen b) ∅ 0 : sProp 𝕄)
      = iprop(atPos ER (sendC c r 0) (sndLen 0) ∅ 0 ∗ atPos ER (sendC c r 1) (sndLen 1) ∅ 0) := by
    rw [bigSep_univ_eq_bigSepL [(0 : Fin 2), 1] (by decide) (by decide), bigSepL_cons_cons, bigSepL_singleton]; rfl
  rw [hP, h2]
  iintro ⟨⟨Ha29, Hp29⟩, ⟨Ha28, Hp28⟩, HG, HP, H3, H4⟩
  isplitl [Ha29 Ha28]
  · isplitl [Ha29]; · iexact Ha29
    iexact Ha28
  isplitl [HP]; · iexact HP
  iapply hj
  isplitl [Hp29 Hp28 HG]
  · isplitl [Hp29]; · iexact Hp29
    isplitl [Hp28]; · iexact Hp28
    iexact HG
  isplitl [H3] <;> iassumption

/-! ## The body -/

/-- What a device ends with. -/
def Done : sProp 𝕄 :=
  iprop(ownX xs c ∗ owesW c 0 ∗ ownsTc c A1 fullShare (FIN xs) ∗ (∃ X, ownsTc c A2 fullShare X) ∗ (∃ X, ownsTc c A3 fullShare X)
    ∗ bigSep Finset.univ fun k : CK => semVal (kcell (c, k)) 0)

theorem Ctx_mayBar (p : Fin 8 → ℕ) : Ctx xs κ ⊢ (MayWait (c : Thread nD τ) (.reg barS) 0 (oweR c p) : sProp 𝕄) := by
  have h : Ctx xs κ ⊢ (levAts L lv : sProp 𝕄) := by
    unfold Ctx; iintro ⟨-, H⟩; iexact H
  exact h.trans (mayWait_bar (F := F) c p)

/-- The handshake: each side's places against its neighbours'. -/
theorem hand (K : PB F) :
    Ctx xs κ ⊢ iprop(owesW c (owe0 c) -∗ dutyTok ER (barC (lf c)) 0 false -∗ dutyTok ER (barC (rt c)) 0 true -∗ cred (tallyAt (barC c) 0 2)
      -∗ atPos ER (barC c) 0 ∅ 0 -∗ (barPay (lf c) false ∗ barPay (rt c) true)
      -∗ (owesW c (oweR c fun _ => 0) -∗ atPos ER (barC c) 1 ∅ 0 -∗ (barPay c false ∗ barPay c true) -∗ WP c K Q)
      -∗ WP c (.op (.semSignal ((⟨k0_dev1 c, k0_dev1_lt c⟩ : Dev nD), .tc) barS (1#32).toInt) fun _ =>
        .op (.semSignal ((⟨k0_dev2 c, k0_dev2_lt c⟩ : Dev nD), .tc) barS (1#32).toInt) fun _ => .op (.semWait barS (2#32).toInt) fun _ => K) Q) := by
  rw [dev1_eq, dev2_eq]
  unfold owesW owe0
  iintro #HC ⟨%W, HO⟩ Ht1 Ht2 Hcr Hat ⟨Hp1, Hp2⟩ Hk
  ihave HIl := (Ctx_bar xs κ (lf c)) $$ HC
  icases HIl with ⟨HIl, Hrl⟩
  ihave HIr := (Ctx_bar xs κ (rt c)) $$ HC
  icases HIr with ⟨HIr, Hrr⟩
  ihave HI := (Ctx_bar xs κ c) $$ HC
  icases HI with ⟨HI, -⟩
  iapply (Rounds.wp_signal 𝒱₀ ER (Rd xs) (c : Thread nD τ) none (dst := (lf c : Thread nD τ)) (κ := κ (lf c, .inl ()))
      (d := false) (by rw [duties_bar]; exact Finset.mem_univ _) ((amount_bar xs (lf c) 0 false).trans (by decide)) 0
      (oweR c (fun _ => 0) + tallyAt (barC (rt c)) 0 1) rfl) $$ [HO Ht1 HIl Hp1 Hrl]
  · isplitl [HIl]; · iexact HIl
    isplitl [HO]; · iexact HO
    isplitl [Ht1]; · iexact Ht1
    isplitl [Hp1]; · rw [payload_bar]; iexact Hp1
    iexact Hrl
  iintro HO
  iapply (Rounds.wp_signal 𝒱₀ ER (Rd xs) (c : Thread nD τ) none (dst := (rt c : Thread nD τ)) (κ := κ (rt c, .inl ()))
      (d := true) (by rw [duties_bar]; exact Finset.mem_univ _) ((amount_bar xs (rt c) 0 true).trans (by decide)) 0
      (oweR c (fun _ => 0)) rfl) $$ [HO Ht2 HIr Hp2 Hrr]
  · isplitl [HIr]; · iexact HIr
    isplitl [HO]; · iexact HO
    isplitl [Ht2]; · iexact Ht2
    isplitl [Hp2]; · rw [payload_bar]; iexact Hp2
    iexact Hrr
  iintro HO
  iapply (Rounds.wp_wait_rest_token 𝒱₀ ER (Rd xs) (c : Thread nD τ) none (κ := κ (c, .inl ()))
      (wpE_semWait_eq 𝒱₀ (c : Thread nD τ) none Set.univ) (Set.mem_univ (κ (c, .inl ()))) 0 (O := oweR c (fun _ => 0)) (W := W) (R := 0) (m := 0) (T := ∅)
      (by rw [expect_bar]; decide)) $$ [Hcr HO Hat HI]
  · isplitl [HI]; · iexact HI
    isplitl [Hcr]; · iexact Hcr
    isplitl [HO]; · iexact HO
    isplitr; · iapply (Ctx_mayBar xs κ c (fun _ => 0)) $$ HC
    iexact Hat
  iintro ⟨HO, Hat, -, Hpay⟩
  ihave Hpay := (Entails.of_eq (rest_bar xs c)) $$ Hpay
  iapply Hk $$ [HO] Hat Hpay
  iexists _; iexact HO

/-- All that is held after the last waits. -/
theorem finish :
    iprop(Ctx xs κ ∗ atPos ER (barC c) 1 ∅ 0
      ∗ (bigSep Finset.univ fun r : Fin 8 => iprop(atPos ER (sendC c r (slotOf 29)) (sndRnd 29 + 1) ∅ 0 ∗ sendPay xs c r 29))
      ∗ (bigSep Finset.univ fun r : Fin 8 => iprop(atPos ER (sendC c r (slotOf 28)) (sndRnd 28 + 1) ∅ 0 ∗ sendPay xs c r 28))
      ∗ (bigSep Finset.univ fun r : Fin 8 => iprop((bigSep (Finset.range 28) (sendPay xs c r)) ∗ Poss c r 30
        ∗ (∃ X, own (F := F) c (dst (up c r) r 14) X) ∗ own c (dst (up c r) r 29) (msgV xs 29 r (up c r)))))
    ⊢ (|={Set.univ}=> iprop(ownsTc c A1 fullShare (FIN xs) ∗ (∃ X, ownsTc c A2 fullShare X) ∗ (∃ X, ownsTc c A3 fullShare X)
      ∗ bigSep Finset.univ fun k : CK => semVal (kcell (c, k)) 0) : sProp 𝕄) := by
  have hr : iprop((bigSep Finset.univ fun r : Fin 8 => iprop(atPos ER (sendC c r (slotOf 29)) (sndRnd 29 + 1) ∅ 0 ∗ sendPay xs c r 29))
      ∗ (bigSep Finset.univ fun r : Fin 8 => iprop(atPos ER (sendC c r (slotOf 28)) (sndRnd 28 + 1) ∅ 0 ∗ sendPay xs c r 28))
      ∗ (bigSep Finset.univ fun r : Fin 8 => iprop((bigSep (Finset.range 28) (sendPay xs c r)) ∗ Poss c r 30
        ∗ (∃ X, own (F := F) c (dst (up c r) r 14) X) ∗ own c (dst (up c r) r 29) (msgV xs 29 r (up c r)))))
    ⊢ (iprop((bigSep Finset.univ fun r : Fin 8 => bigSep Finset.univ fun b : Fin 2 => atPos ER (sendC c r b) (sndLen b) ∅ 0)
      ∗ (bigSep Finset.univ fun r : Fin 8 => bigSep Finset.univ fun s : Fin 15 => atPos ER (recvC c r s) 2 ∅ 0)
      ∗ (bigSep Finset.univ fun r : Fin 8 => iprop(∃ X, own (F := F) c (seedM A3 r) X))
      ∗ (bigSep Finset.univ fun r : Fin 8 => bigSep Finset.univ fun s : Fin 15 => iprop(∃ X, own (F := F) c (commM A2 r s) X))
      ∗ bigSep Finset.univ fun r : Fin 8 => bigSep Finset.univ fun j : Fin 16 => own c (outC r j) (msgV xs 15 r (owner r j))) : sProp 𝕄) := by
    rw [← bigSep_sep', ← bigSep_sep', ← bigSep_sep', ← bigSep_sep', ← bigSep_sep', ← bigSep_sep']
    exact bigSep_mono fun r _ => ring_end xs c r
  iintro ⟨#HC, Hb, H29, H28, HR⟩
  ihave H := hr $$ [H29 H28 HR]
  · isplitl [H29]; · iexact H29
    isplitl [H28] <;> iassumption
  icases H with ⟨Hs, Hv, Hseed, Hcomm, Hout⟩
  ihave Hseed := (seed_join (F := F) c) $$ Hseed
  ihave Hcomm := (comm_join (F := F) c) $$ Hcomm
  ihave Hout := (out_join c xs) $$ Hout
  imod (close_all xs κ c) $$ [Hb Hs Hv] with Hz
  · isplitr; · iexact HC
    iapply (Entails.of_eq (big_CK (F := F) fun k : CK => atPos ER (kcell (c, k)) (endR k) ∅ 0).symm)
    isplitl [Hb]; · iexact Hb
    isplitl [Hs]; · iexact Hs
    iexact Hv
  imodintro
  isplitl [Hout]; · iexact Hout
  isplitl [Hcomm]; · iexact Hcomm
  isplitl [Hseed]; · iexact Hseed
  iexact Hz

theorem oweR_done : oweR c (fun _ => 31) = 0 := by
  unfold oweR
  exact Finset.sum_eq_zero fun r _ => by rw [Finset.Ico_eq_empty (by show ¬ 31 < 30; omega), Finset.sum_empty]

/-- The rings in their order. -/
theorem by_rings (Φ : Fin 8 → sProp 𝕄) : bigSep Finset.univ Φ = bigSepL rings Φ := bigSep_univ_eq_bigSepL rings (by decide) (by decide) Φ

/-- The last waits and the end. -/
theorem tail :
    Ctx xs κ ⊢ iprop(St xs c (fun _ => 31) -∗ atPos ER (barC c) 1 ∅ 0 -∗ (Done xs c -∗ Q ⟨⟩)
      -∗ WP c (drainL A1 hA1 A2 hA2 A3 hA3 cc0_scratch2 c 29 rings (drainL A1 hA1 A2 hA2 A3 hA3 cc0_scratch2 c 28 rings (.ret ⟨⟩))) Q) := by
  have hr : (bigSep Finset.univ fun r : Fin 8 => RS xs c r 31) ⊢ iprop((bigSepL rings fun r => Leav c r 29) ∗ (bigSepL rings fun r => Leav c r 28)
      ∗ bigSep Finset.univ fun r : Fin 8 => iprop((bigSep (Finset.range 28) (sendPay xs c r)) ∗ Poss c r 30
        ∗ (∃ X, own (F := F) c (dst (up c r) r 14) X) ∗ own c (dst (up c r) r 29) (msgV xs 29 r (up c r)))) := by
    rw [← by_rings, ← by_rings, ← bigSep_sep', ← bigSep_sep']
    exact bigSep_mono fun r _ => rs_end xs c r
  have e29 := (Entails.of_eq (by_rings (F := F) fun r => iprop(atPos ER (sendC c r (slotOf 29)) (sndRnd 29 + 1) ∅ 0 ∗ sendPay xs c r 29)).symm)
  have e28 := (Entails.of_eq (by_rings (F := F) fun r => iprop(atPos ER (sendC c r (slotOf 28)) (sndRnd 28 + 1) ∅ 0 ∗ sendPay xs c r 28)).symm)
  unfold St Done
  iintro #HC ⟨HX, HO, HR, -⟩ Hb Hk
  ihave HR := hr $$ HR
  icases HR with ⟨H29, H28, HR⟩
  iapply (drain_list xs κ c 29 (by omega) (fun _ => 31) _ rings) $$ HC HO H29
  iintro HO H29
  iapply (drain_list xs κ c 28 (by omega) (fun _ => 31) _ rings) $$ HC HO H28
  iintro HO H28
  ihave H29 := e29 $$ H29
  ihave H28 := e28 $$ H28
  imod (finish xs κ c) $$ [Hb H29 H28 HR] with H
  · isplitr; · iexact HC
    isplitl [Hb]; · iexact Hb
    isplitl [H29]; · iexact H29
    isplitl [H28] <;> iassumption
  rw [oweR_done, wp_ret]
  imodintro
  iapply Hk
  isplitl [HX]; · iexact HX
  isplitl [HO]; · iexact HO
  iexact H

/-- The body, from its start to its end. -/
theorem body_all :
    Ctx xs κ ⊢ iprop(Start c -∗ owesW c (owe0 c) -∗ ownX xs c
      -∗ ((∃ X, ownsTc c A1 fullShare X) ∗ (∃ X, ownsTc c A2 fullShare X) ∗ (∃ X, ownsTc c A3 fullShare X)) -∗ (Done xs c -∗ Q ⟨⟩)
      -∗ WP c (bodyK A0 A1 hA1 A2 hA2 A3 hA3 cc0_scratch2 cc0_scratch3 c) Q) := by
  unfold Start bodyK
  iintro #HC ⟨Hat, Ht1, Ht2, Hcr, HRS⟩ HO HX HM Hk
  ihave HM := (cut_all (F := F) c) $$ HM
  icases HM with ⟨Hl, H15, H0⟩
  ihave Hl := (lend (F := F) c) $$ Hl
  iapply (hand xs κ c _) $$ HC HO Ht1 Ht2 Hcr Hat Hl
  iintro HO Hat Hl
  ihave Hl := (lent (F := F) c) $$ Hl
  ihave HS := (st_start xs c) $$ [HX HO HRS Hl H15 H0]
  · isplitl [HX]; · iexact HX
    isplitl [HO]; · iexact HO
    isplitl [HRS]; · iexact HRS
    isplitl [Hl]; · iexact Hl
    isplitl [H15] <;> iassumption
  iapply (stage_all xs κ c _ 31 0 (by omega)) $$ HC HS
  iintro HS
  iapply (tail xs κ c) $$ HC HS Hat Hk

end Whole

end Cert.KernelIdeal.Gen
-- ==== Proof.Deal.lean ====
/- What the launch gives every device: its semaphores' invariants, its tokens and its credit. -/
module

public import proofs.«01_k».proof.Proof.Whole

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The semaphores and the tokens, listed -/

/-- The kernel's own semaphores. -/
def osem (k : (Fin 8 × Fin 2) ⊕ (Fin 8 × Fin 15)) : SemLoc sig := csem (.inr k)

/-- Two units of the barrier; a send and a receive of every message. -/
abbrev TK : Type := Bool ⊕ ((Fin 8 × Fin 30) ⊕ (Fin 8 × Fin 30))
def tk : TK → CK × ℕ × Bool
  | .inl b => (.inl (), 0, b)
  | .inr (.inl p) => (.inr (.inl (p.1, slotOf p.2.val)), sndRnd p.2.val, false)
  | .inr (.inr p) => (.inr (.inr (p.1, mod15 p.2.val)), p.2.val / 15, false)
theorem tk_inj : Function.Injective tk := by
  rintro (b | ⟨r, k⟩ | ⟨r, k⟩) (b' | ⟨r', k'⟩ | ⟨r', k'⟩) h
  · exact congrArg Sum.inl (congrArg (fun x : CK × ℕ × Bool => x.2.2) h)
  · exact absurd (congrArg Prod.fst h) (fun h => by cases h)
  · exact absurd (congrArg Prod.fst h) (fun h => by cases h)
  · exact absurd (congrArg Prod.fst h) (fun h => by cases h)
  · have h1 := congrArg Prod.fst h
    simp only [tk, Sum.inr.injEq, Sum.inl.injEq, Prod.mk.injEq] at h1
    have h2 : sndRnd k.val = sndRnd k'.val := congrArg (fun x : CK × ℕ × Bool => x.2.1) h
    have hk : k = k' := Fin.ext (by rw [← msgOf_sndRnd k, ← msgOf_sndRnd k', h1.2, h2])
    rw [h1.1, hk]
  · exact absurd (congrArg Prod.fst h) (fun h => by cases h)
  · exact absurd (congrArg Prod.fst h) (fun h => by cases h)
  · exact absurd (congrArg Prod.fst h) (fun h => by cases h)
  · have h1 := congrArg Prod.fst h
    simp only [tk, Sum.inr.injEq, Prod.mk.injEq] at h1
    have h2 : k.val / 15 = k'.val / 15 := congrArg (fun x : CK × ℕ × Bool => x.2.1) h
    have h3 : k.val % 15 = k'.val % 15 := congrArg Fin.val h1.2
    have hk : k = k' := Fin.ext (by omega)
    rw [h1.1, hk]

def tokOf (p : Dev nD × TK) : GSem nD τ sig × ℕ × Bool := (kcell (p.1, (tk p.2).1), (tk p.2).2.1, (tk p.2).2.2)
theorem tokOf_inj : Function.Injective tokOf := by
  rintro ⟨c, t⟩ ⟨c', t'⟩ h
  have h1 : (c, (tk t).1) = (c', (tk t').1) := kcell_inj (congrArg Prod.fst h)
  have h3 : (tk t).2 = (tk t').2 := congrArg (fun x : GSem nD τ sig × ℕ × Bool => x.2) h
  have h2 : tk t = tk t' := Prod.ext (congrArg Prod.snd h1) h3
  rw [show c = c' from congrArg Prod.fst h1, tk_inj h2]

def allCells : Finset (GSem nD τ sig) := Finset.univ.map ⟨kcell, kcell_inj⟩
def allToks : Finset (GSem nD τ sig × ℕ × Bool) := Finset.univ.map ⟨tokOf, tokOf_inj⟩

omit [FloatOps F] in
theorem range30 (Φ : ℕ → sProp 𝕄) : (bigSep Finset.univ fun k : Fin 30 => Φ k.val) = bigSep (Finset.range 30) Φ := by
  rw [show Finset.range 30 = (Finset.univ : Finset (Fin 30)).map Fin.valEmbedding by decide +kernel, bigSep_map]
  rfl

section Deal
variable (xs : Dev nD → S4096x1024.Idx → Elt F .bf16) (c : Dev nD)

/-- The tokens of a device's own semaphores. -/
def toks : sProp 𝕄 :=
  iprop((dutyTok ER (barC c) 0 false ∗ dutyTok ER (barC c) 0 true)
    ∗ (bigSep Finset.univ fun r : Fin 8 => bigSep (Finset.range 30) fun k => dutyTok ER (sendC c r (slotOf k)) (sndRnd k) false)
    ∗ bigSep Finset.univ fun r : Fin 8 => bigSep (Finset.range 30) fun k => dutyTok ER (recvC c r (mod15 k)) (k / 15) false)
/-- The tokens a device pays with. -/
def payToks : sProp 𝕄 :=
  iprop((dutyTok ER (barC (lf c)) 0 false ∗ dutyTok ER (barC (rt c)) 0 true)
    ∗ (bigSep Finset.univ fun r : Fin 8 => bigSep (Finset.range 30) fun k => dutyTok ER (sendC c r (slotOf k)) (sndRnd k) false)
    ∗ bigSep Finset.univ fun r : Fin 8 => bigSep (Finset.range 30) fun k => dutyTok ER (recvC (dn c r) r (mod15 k)) (k / 15) false)

omit [FloatOps F] in
theorem toks_eq : (bigSep Finset.univ fun t : TK => dutyTok ER (tokOf (c, t)).1 (tokOf (c, t)).2.1 (tokOf (c, t)).2.2) = (toks c : sProp 𝕄) := by
  have hb : ∀ Φ : Bool → sProp 𝕄, bigSep Finset.univ Φ = iprop(Φ false ∗ Φ true) := fun Φ =>
    bigSep_univ_eq_bigSepL [false, true] (by decide) (by decide) Φ
  unfold toks
  rw [bigSep_univ_sum, bigSep_univ_sum, bigSep_univ_prod, bigSep_univ_prod, hb,
    ← bigSep_congr (s := Finset.univ) fun (r : Fin 8) _ => range30 (F := F) fun k => dutyTok ER (sendC c r (slotOf k)) (sndRnd k) false,
    ← bigSep_congr (s := Finset.univ) fun (r : Fin 8) _ => range30 (F := F) fun k => dutyTok ER (recvC c r (mod15 k)) (k / 15) false]
  rfl

def rtE : Dev nD ≃ Dev nD := ⟨rt, lf, lf_rt, rt_lf⟩
def dnE : Dev nD × Fin 8 ≃ Dev nD × Fin 8 :=
  ⟨fun p => (dn p.1 p.2, p.2), fun p => (up p.1 p.2, p.2), fun p => Prod.ext (up_dn p.1 p.2) rfl, fun p => Prod.ext (dn_up p.1 p.2) rfl⟩

omit [FloatOps F] in
/-- Every token goes to the device that pays with it. -/
theorem toks_around : (bigSep Finset.univ fun c : Dev nD => (toks c : sProp 𝕄)) ⊢ bigSep Finset.univ fun c : Dev nD => payToks c := by
  have hr : (bigSep Finset.univ fun c : Dev nD => bigSep Finset.univ fun r : Fin 8 => bigSep (Finset.range 30) fun k => (dutyTok ER (recvC c r (mod15 k)) (k / 15) false : sProp 𝕄))
      = bigSep Finset.univ fun c : Dev nD => bigSep Finset.univ fun r : Fin 8 => bigSep (Finset.range 30) fun k => dutyTok ER (recvC (dn c r) r (mod15 k)) (k / 15) false := by
    rw [← bigSep_univ_prod (fun p : Dev nD × Fin 8 => bigSep (Finset.range 30) fun k => (dutyTok ER (recvC p.1 p.2 (mod15 k)) (k / 15) false : sProp 𝕄)),
      bigSep_univ_equiv dnE, bigSep_univ_prod]
    rfl
  have h1 : (bigSep Finset.univ fun c : Dev nD => (dutyTok ER (barC c) 0 false : sProp 𝕄)) = bigSep Finset.univ fun c : Dev nD => dutyTok ER (barC (lf c)) 0 false := by
    rw [bigSep_univ_equiv rtE.symm]; rfl
  have h2 : (bigSep Finset.univ fun c : Dev nD => (dutyTok ER (barC c) 0 true : sProp 𝕄)) = bigSep Finset.univ fun c : Dev nD => dutyTok ER (barC (rt c)) 0 true := by
    rw [bigSep_univ_equiv rtE]; rfl
  unfold toks payToks
  rw [bigSep_sep', bigSep_sep', bigSep_sep', bigSep_sep', bigSep_sep', bigSep_sep', hr, h1, h2]

/-! ## From the launch to the invariants -/

/-- What a device is dealt. -/
def G : sProp 𝕄 :=
  iprop((bigSep Finset.univ fun k : CK => roundState ER (Rd xs) (kcell (c, k)) 0)
    ∗ (bigSep Finset.univ fun k : CK => iprop(atPos ER (kcell (c, k)) 0 ∅ 0 ∗ reached ER (kcell (c, k)) 0)) ∗ toks c)

theorem fund_all : BI.own (ER (initOf allCells allToks)) ⊢ (|==> bigSep Finset.univ (G xs) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd xs) allCells allToks) $$ HX with ⟨Hst, Hr, Hat, Htok⟩
  imodintro
  ihave Hst := (Entails.of_eq (hX fun g => roundState ER (Rd xs) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem unscoped_eq : (unscopedSems0 c : sProp 𝕄) = semVal (barC c) 0 := by
  unfold unscopedSems0; rw [bigSep_eq_bigSepL_of_eq [SemLoc.reg barS] (by decide) (by decide)]; rfl

omit [FloatOps F] in
/-- All semaphores of a device at zero: its own and the barrier. -/
theorem sems_eq : (bigSep Finset.univ fun k : CK => (semVal (kcell (c, k)) 0 : sProp 𝕄))
    = iprop(unscopedSems0 c ∗ Pipeline.ownSems0 (Ix := ℕ) (Name := ℕ) (U := UU) (Lvl := ℕ) (Val := Elt F) (τ := τ) osem c) := by
  rw [unscoped_eq, bigSep_univ_sum, show (Finset.univ : Finset Unit) = {()} from rfl, bigSep_singleton]
  rfl

theorem core_alloc :
    iprop(Pipeline.ownSems0 (Ix := ℕ) (Name := ℕ) (U := UU) (Lvl := ℕ) (Val := Elt F) (τ := τ) osem c ∗ unscopedSems0 c ∗ G xs c)
      ⊢ |={Set.univ}=> iprop((bigSep Finset.univ fun k : CK => iprop(∃ κ : ℕ, cellInv ER (Rd xs) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : CK => semVal (kcell (c, k)) 0) ∗ bigSep Finset.univ fun k : CK => roundState ER (Rd xs) (kcell (c, k)) 0)
      ⊢ (|={Set.univ}=> bigSep Finset.univ fun k : CK => iprop(∃ κ : ℕ, cellInv ER (Rd xs) κ (kcell (c, k))) : sProp 𝕄) from by
        rw [← bigSep_sep']
        exact (bigSep_mono fun k _ => (Rounds.body_intro ER (Rd xs) (kcell (c, k))).trans inv_alloc).trans (bigSep_fupd _ _)) $$ [Hv Hst] with Hinv
  · isplitl [Hv] <;> iassumption
  imodintro
  isplitl [Hinv]; · iexact Hinv
  isplitl [Hat] <;> iassumption

/-- The invariants of all devices' semaphores, at the names they were given. -/
def Recs (κ : Dev nD × CK → ℕ) : sProp 𝕄 := bigSep Finset.univ fun p : Dev nD × CK => iprop(cellInv ER (Rd xs) (κ p) (kcell p) ∗ reached ER (kcell p) 0)
instance Recs_persistent (κ : Dev nD × CK → ℕ) : BI.Persistent (Recs xs κ) := by unfold Recs; infer_instance

/-- Where a device is in each semaphore's rounds, and its tokens. -/
def linear : sProp 𝕄 := iprop((bigSep Finset.univ fun k : CK => atPos ER (kcell (c, k)) 0 ∅ 0) ∗ payToks c)
def G' : sProp 𝕄 := iprop((∃ κ, Recs xs κ) ∗ linear c)

omit [FloatOps F] in
/-- One persistent fact serves every index. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd xs) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' xs) := by
  rw [bigSep_sep', bigSep_sep', ← bigSep_univ_prod (fun p : Dev nD × CK => iprop(∃ κ : ℕ, cellInv ER (Rd xs) κ (kcell p))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun p : Dev nD × CK => (reached ER (kcell p) 0 : sProp 𝕄))]
  iintro ⟨HI, ⟨Hat, HR⟩, Htok⟩
  ihave HK := (BI.bigSep_exists_pi Finset.univ (fun (p : Dev nD × CK) (κ : ℕ) => (cellInv ER (Rd xs) κ (kcell p) : sProp 𝕄))) $$ HI
  icases HK with ⟨%κ, HI⟩
  ihave Htk := (toks_around (F := F)) $$ Htok
  ihave HRec := (Entails.of_eq (bigSep_sep' Finset.univ (fun p : Dev nD × CK => (cellInv ER (Rd xs) (κ p) (kcell p) : sProp 𝕄)) (fun p => reached ER (kcell p) 0)).symm) $$ [HI HR]
  · isplitl [HI] <;> iassumption
  ihave Hl := (Entails.of_eq (bigSep_sep' Finset.univ (fun c : Dev nD => bigSep Finset.univ fun k : CK => (atPos ER (kcell (c, k)) 0 ∅ 0 : sProp 𝕄)) payToks).symm) $$ [Hat Htk]
  · isplitl [Hat] <;> iassumption
  iapply (each_with (R := Recs xs κ) (Φ := fun c => linear c) (Ψ := G' xs) fun c _ => (show _ ⊢ _ from by
    unfold G'
    iintro ⟨H1, H2⟩
    isplitl [H1]
    · iexists κ; iexact H1
    iexact H2)) $$ [HRec Hl]
  isplitl [HRec]
  · unfold Recs; iexact HRec
  · unfold linear; iexact Hl

/-- All devices' semaphores at once. -/
theorem glob : (bigSep Finset.univ fun c => iprop(Pipeline.ownSems0 (Ix := ℕ) (Name := ℕ) (U := UU) (Lvl := ℕ) (Val := Elt F) (τ := τ) osem c ∗ unscopedSems0 c ∗ G xs c) : sProp 𝕄)
    ⊢ |={Set.univ}=> bigSep Finset.univ (G' xs) :=
  ((bigSep_mono fun c _ => core_alloc xs c).trans (bigSep_fupd _ _)).trans (BI.fupd_mono (regroup xs))

/-! ## The credit -/

omit [FloatOps F] in
theorem creds : (Pipeline.launchCred owe0 c : sProp 𝕄)
    ⊢ iprop(cred (tallyAt (barC c) 0 2) ∗ bigSep Finset.univ fun r : Fin 8 => Crs c r 0) := by
  have hr : ∀ r : Fin 8, ∀ k : ℕ, (Pipeline.launchCred (fun d => owe1 d r k) c : sProp 𝕄) ⊢ Cr c r k := fun r k =>
    Pipeline.launchCred_tallyAt (.dma (rS r (mod15 k))) (fun d => dn d r) (fun d => up d r) (fun d => dn_up d r) (fun d => up_dn d r) (k / 15) Nb c
  have hR : (Pipeline.launchCred (fun d => oweR d fun _ => 0) c : sProp 𝕄) ⊢ bigSep Finset.univ fun r : Fin 8 => Crs c r 0 := by
    unfold oweR
    rw [Pipeline.launchCred_sum]
    refine bigSep_mono fun r _ => ?_
    unfold Crs
    rw [Pipeline.launchCred_sum]
    exact bigSep_mono fun k _ => hr r k
  have h1 := Pipeline.launchCred_tallyAt (τ := τ) (Val := Elt F) (Name := ℕ) (U := UU) (Lvl := ℕ) (.reg barS) rt lf rt_lf lf_rt (0 : ℕ) 1 c
  have h2 := Pipeline.launchCred_tallyAt (τ := τ) (Val := Elt F) (Name := ℕ) (U := UU) (Lvl := ℕ) (.reg barS) lf rt lf_rt rt_lf (0 : ℕ) 1 c
  have h3 : iprop(cred (tallyAt (barC c) 0 1) ∗ cred (tallyAt (barC c) 0 1)) ⊢ (cred (tallyAt (barC c) 0 2) : sProp 𝕄) := by
    rw [show (tallyAt (barC c) 0 2 : CellTallies nD τ sig ℕ) = tallyAt (barC c) 0 1 + tallyAt (barC c) 0 1 from (tallyAt_add _ _ 1 1).symm]
    exact (cred_add _ _).2
  unfold owe0
  rw [Pipeline.launchCred_add, Pipeline.launchCred_add]
  iintro ⟨⟨HR, Ha⟩, Hb⟩
  isplitl [Ha Hb]
  · ihave Ha := h1 $$ Ha
    ihave Hb := h2 $$ Hb
    iapply h3
    isplitl [Ha] <;> iassumption
  iapply hR $$ HR

theorem start_of : iprop(linear c ∗ Pipeline.launchCred owe0 c) ⊢ (Start c : sProp 𝕄) := by
  have hs : ∀ r : Fin 8, (bigSep Finset.univ fun b : Fin 2 => atPos ER (sendC c r b) 0 ∅ 0) = (SPs c r 0 : sProp 𝕄) := fun r => by
    unfold SPs
    rw [show Finset.Ico 0 2 = (Finset.univ : Finset (Fin 2)).map Fin.valEmbedding by decide +kernel, bigSep_map]
    exact bigSep_congr fun b _ => by fin_cases b <;> rfl
  have hp : ∀ r : Fin 8, (bigSep Finset.univ fun s : Fin 15 => atPos ER (recvC c r s) 0 ∅ 0) = (Poss c r 0 : sProp 𝕄) := fun r => by
    unfold Poss
    exact bigSep_congr fun s _ => by rw [show posAt 0 s = 0 from if_pos (Nat.zero_le _)]
  have hk : (bigSep Finset.univ fun k : CK => (atPos ER (kcell (c, k)) 0 ∅ 0 : sProp 𝕄))
      = iprop(atPos ER (barC c) 0 ∅ 0 ∗ (bigSep Finset.univ fun r : Fin 8 => SPs c r 0) ∗ bigSep Finset.univ fun r : Fin 8 => Poss c r 0) := by
    rw [big_CK, ← bigSep_congr (s := Finset.univ) fun (r : Fin 8) _ => hs r, ← bigSep_congr (s := Finset.univ) fun (r : Fin 8) _ => hp r]
    rfl
  have ht : iprop((bigSep Finset.univ fun r : Fin 8 => bigSep (Finset.range 30) fun k => dutyTok ER (sendC c r (slotOf k)) (sndRnd k) false)
      ∗ bigSep Finset.univ fun r : Fin 8 => bigSep (Finset.range 30) fun k => dutyTok ER (recvC (dn c r) r (mod15 k)) (k / 15) false)
      ⊢ (bigSep Finset.univ fun r : Fin 8 => bigSep (Finset.range 30) (Tok c r) : sProp 𝕄) := by
    unfold Tok
    rw [← bigSep_sep']
    exact bigSep_mono fun r _ => Entails.of_eq (bigSep_sep' _ _ _).symm
  unfold linear payToks Start RingStart
  rw [hk, bigSep_sep', bigSep_sep', bigSep_sep']
  iintro ⟨⟨⟨Hb, Hs, Hp⟩, ⟨Ht1, Ht2⟩, Hts, Htr⟩, Hcr⟩
  ihave Hcr := (creds (F := F) c) $$ Hcr
  icases Hcr with ⟨Hcb, Hcr⟩
  ihave Ht := ht $$ [Hts Htr]
  · isplitl [Hts] <;> iassumption
  isplitl [Hb]; · iexact Hb
  isplitl [Ht1]; · iexact Ht1
  isplitl [Ht2]; · iexact Ht2
  isplitl [Hcb]; · iexact Hcb
  isplitl [Ht]; · iexact Ht
  isplitl [Hcr]; · iexact Hcr
  isplitl [Hp] <;> iassumption

end Deal

end Cert.KernelIdeal.Gen
-- ==== Proof.Run.lean ====
/- The whole run: the launch, every device's body, and what memory holds at the end. -/
module

public import proofs.«01_k».proof.Proof.Deal
public import proofs.«01_k».proof.Proof.Gen.KernelIdeal.Points
public import Idealize.ShloMosaic.Lib.Quiescent
public import Idealize.ShloMosaic.Lib.Pipeline.CollectiveSegs

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The argument as device `c` has it. -/
def xin (c : Dev nD) : S4096x1024.Idx → Elt F .bf16 := m ((c : Thread nD τ).loc main_arg0)
/-- The same, through the window. -/
def xstg (c : Dev nD) : S4096x1024.Idx → Elt F .bf16 := (win0_0.blk (0 : Fin 1)).view.read (Elt F) (m ((c : Thread nD τ).loc main_arg0))

omit [FloatOps F] in
theorem xstg_eq (c : Dev nD) : xstg m c = xin m c := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

def s₀ : MemSt nD τ sig (Elt F) := ⟨m, fun _ => 0, ρ⟩

def t₀ : Fin cfg0.N := t0_0

/-! ## The state around the body -/

def Φ₀ (c : Dev nD) : sProp 𝕄 :=
  iprop(((∃ κ, Ctx (xstg m) κ) ∗ Start c) ∗ Pipeline.scopedRest cfg0.spec c)
def Φ₁ (c : Dev nD) : sProp 𝕄 :=
  iprop((bigSep Finset.univ fun k : CK => semVal (kcell (c, k)) 0) ∗ Pipeline.scopedRest cfg0.spec c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => FIN (xstg m)
  Φ t := match t with
    | ⟨0, _⟩ => Φ₀ m c
    | ⟨_ + 1, _⟩ => Φ₁ c
  q _ := fullShare
  owed t := match t with
    | ⟨0, _⟩ => owe0 c
    | ⟨_ + 1, _⟩ => 0

omit [FloatOps F] in
theorem owns_buf (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stgd (c : Dev nD) (b : Ref sig .tc) (X : b.ty.Contents (Elt F)) : sProp 𝕄 :=
  owns (Ix := ℕ) (Name := ℕ) (U := UU) (Lvl := ℕ) (c : Thread nD τ) (Memref.whole b) fullShare X

def bodyPre (c : Dev nD) : sProp 𝕄 :=
  iprop(Φ₀ m c ∗ (dats m ρ 0 c).owesAt 0 t₀.castSucc
    ∗ (∃ d, stgd c cc0_stg0_0 ((dats m ρ 0 c).before (0 : Fin 2) t₀ d))
    ∗ (∃ d, stgd c cc0_stg1_0 ((dats m ρ 0 c).before (1 : Fin 2) t₀ d)))
def bodyPost (c : Dev nD) : sProp 𝕄 :=
  iprop(Φ₁ c ∗ (dats m ρ 0 c).owesAt 0 t₀.succ ∗ stgd c cc0_stg0_0 (xstg m c) ∗ stgd c cc0_stg1_0 (FIN (xstg m)))

omit [FloatOps F] in
/-- The two scratch buffers, as the launch lends them. -/
theorem scratch_eq (c : Dev nD) : (Pipeline.scopedRest cfg0.spec c : sProp 𝕄) ⊣⊢ iprop((∃ X, ownsTc c A2 fullShare X) ∗ ∃ X, ownsTc c A3 fullShare X) := by
  rw [scopedRest0_eq]
  unfold ownsTc
  simp only [owns_buf]
  constructor
  · iintro ⟨⟨%f, H1⟩, ⟨%g, H2⟩⟩
    isplitl [H1]
    · iexists f; iexists f; isplitr; · (ipureintro; rfl)
      iexact H1
    · iexists g; iexists g; isplitr; · (ipureintro; rfl)
      iexact H2
  · iintro ⟨⟨%X, %f, -, H1⟩, ⟨%Y, %g, -, H2⟩⟩
    isplitl [H1]
    · iexists f; iexact H1
    · iexists g; iexact H2

theorem sound_body (c : Dev nD) :
    bodyPre m ρ c ⊢ WP c (cc0_body A0 hA0 A1 hA1 A2 hA2 A3 hA3 cc0_scratch2 cc0_scratch3) (fun _ => bodyPost m ρ c) := by
  rw [cc0_body_eq]
  unfold body WP
  rw [wp_deviceId]
  unfold bodyPre Φ₀
  iintro ⟨⟨⟨⟨%κ, #HC⟩, HS⟩, Hr⟩, Ho, ⟨%d0, Hx⟩, ⟨%d1, Hout⟩⟩
  ihave Hr := (scratch_eq (F := F) c).1 $$ Hr
  icases Hr with ⟨H2, H3⟩
  have hx : (dats m ρ 0 c).before (0 : Fin 2) t₀ d0 = xstg m c := by unfold Dat.before; rw [if_pos (fetch0_0 t₀)]; rfl
  ihave Hx := (Entails.of_eq (congrArg (stgd (F := F) c cc0_stg0_0) hx)) $$ Hx
  ihave HO := (show (dats m ρ 0 c).owesAt 0 t₀.castSucc ⊢ owesW c (owe0 c) from by
    unfold Dat.owesAt Pipeline.owesWithin owesW
    rw [show (dats m ρ 0 c).owed t₀.castSucc = owe0 c from rfl]
    iintro ⟨%W, -, H⟩
    iexists W; iexact H) $$ Ho
  iapply (body_all (xstg m) κ c) $$ HC HS HO [Hx] [Hout H2 H3]
  · unfold ownX ownsTc; iexact Hx
  · isplitl [Hout]
    · iexists _; iexact Hout
    isplitl [H2] <;> iassumption
  unfold Done bodyPost Φ₁
  iintro ⟨HX, HO, H1, H2, H3, Hz⟩
  isplitl [H2 H3 Hz]
  · isplitl [Hz]; · iexact Hz
    iapply (scratch_eq (F := F) c).2
    isplitl [H2] <;> iassumption
  isplitl [HO]
  · unfold Dat.owesAt Pipeline.owesWithin owesW
    rw [show (dats m ρ 0 c).owed t₀.succ = 0 from rfl]
    icases HO with ⟨%W, HO⟩
    iexists W
    isplitr; · ipureintro; exact fun _ _ => Or.inl trivial
    iexact HO
  isplitl [HX]
  · unfold ownX ownsTc; iexact HX
  · iexact H1

set_option maxRecDepth 200000 in
theorem body_obligation (c : Dev nD) : BodyObligation (dats (F := F) m ρ 0 c) (defs₀ (F := F)) 𝒱₀ 0 Set.univ := fun t => by
  rw [show t = t₀ from fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  exact sound_body m ρ c

/-! ## The launch -/

theorem osem_facts : Pipeline.OwnSemFacts cfg0.spec osem where
  isScoped := by decide +kernel
  inj := fun a b h => Sum.inr_injective (csem_inj h)
  disj := by decide +kernel

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred owe0 c ∗ prngReg c (ρ c) ∗ G' (xstg m) c)
      ⊢ |={Set.univ}=> iprop(((∃ κ, Ctx (xstg m) κ) ∗ Start c) ∗ emp) := by
  unfold G'
  iintro ⟨-, Hlev, Hcr, -, ⟨%κ, HR⟩, Hl⟩
  imodintro
  isplitl
  · isplitl [Hlev HR]
    · iexists κ
      unfold Ctx
      isplitl [HR]
      · unfold Recs; iexact HR
      iexact Hlev
    · iapply (start_of (F := F) c)
      isplitl [Hl] <;> iassumption
  · iempintro

theorem phi0_intro (c : Dev nD) :
    iprop(((∃ κ, Ctx (xstg m) κ) ∗ Start c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [sems_eq]
  iintro ⟨⟨Hu, Ho⟩, Hr⟩
  isplitl [Hu]; · iexact Hu
  isplitl [Ho] <;> iassumption

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m ρ 0 c).arrAt w cfg0.N

set_option maxRecDepth 200000 in
/-- Every fair run of the sixteen devices ends, with every array as computed and every semaphore at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe0) (howed₀ := fun _ => rfl) (howedN := fun _ => rfl)
    (L := L) (lv := lv) (hL := L_of_ne) (hwaits := waits m ρ)
    (G := G (xstg m)) (G' := G' (xstg m)) (u₀ := u₀)
    (hu₀ := by
      unfold u₀
      iintro Hu
      ihave H := (ownU_pair _ _) $$ Hu
      icases H with ⟨HP, HX⟩
      imod (fund_all (xstg m)) $$ HX with HG
      imodintro
      isplitl [HP] <;> iassumption)
    (hglob := glob (xstg m))
    (hA := fun _ _ => rfl) (hpf := fun _ k => k.elim0)
    (X := fun c => iprop((∃ κ, Ctx (xstg m) κ) ∗ Start c)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array is as it was. -/
theorem finalA_x (c : Dev nD) : finalA m ρ c (0 : Fin 2) = m ((c : Thread nD τ).loc main_arg0) :=
  (dats (F := F) m ρ 0 c).arrAt_in (0 : Fin 2) rfl _

/-- The result array is what every device computed. -/
theorem finalA_o (c : Dev nD) : finalA m ρ c (1 : Fin 2) = FIN (xin m) := by
  have ho : (win0_1.blk (0 : Fin 1)).view.read (Elt F) (finalA m ρ c (1 : Fin 2)) = FIN (xstg m) := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  rw [show xin m = xstg m from funext fun d => (xstg_eq m d).symm, ← ho]
  exact (Memref.read_access_unit_zero (Elt F) main_v1 hz (fun a => by fin_cases a <;> decide) _).symm

end Cert.KernelIdeal.Gen
-- ==== Proof.Value.lean ====
/- The value: over the extended reals every device ends with the activation of the sum of all blocks. -/
module

public import proofs.«01_k».proof.Defs
public import proofs.«01_k».proof.Proof.Memory
public import proofs.«01_k».proof.Proof.Gen.ReferenceIdeal.Run
public import Idealize.ShloMosaic.PureOps.Ideal
public import Idealize.ShloMosaic.Lib.IdealHost
public import Idealize.ShloMosaic.Lib.Pointwise
public import Idealize.ShloMosaic.Lib.Layout

@[expose] public section

noncomputable section

namespace Cert.KernelIdeal.Gen

open Idealize.ShloMosaic
open Idealize.ShloMosaic.TcCoe
open scoped BigOperators

/-- The device `t` steps up ring `r` from `d`. -/
def upN (r : Fin 8) : ℕ → Dev nD → Dev nD
  | 0, d => d
  | t + 1, d => upN r t (up d r)
/-- The chunk message `k` of ring `r` from `d` is about, in the first half. -/
def cIdx (d : Dev nD) (r : Fin 8) : ℕ → Fin 16
  | 0 => pos d
  | k + 1 => aIdx d r k
theorem cIdx_up : ∀ (d : Dev nD) (r : Fin 8) (k : Fin 15), cIdx (up d r) r k.val = aIdx d r k.val := by decide +kernel
theorem upN_inj : ∀ (r : Fin 8) (d : Dev nD) (t t' : Fin 16), upN r t.val d = upN r t'.val d → t = t' := by decide +kernel
theorem owner_last : ∀ (r : Fin 8) (j : Fin 16), aIdx (owner r j) r 14 = j := by decide +kernel

section
variable (xs : Dev nD → S4096x1024.Idx → Elt Ideal .bf16)

/-- A message of the first half is the sum over the devices it has passed. -/
theorem msgV_sum (r : Fin 8) (i : S32x1024.Idx) : ∀ k : ℕ, k < 15 → ∀ d : Dev nD,
    msgV xs k r d i = ∑ t ∈ Finset.range (k + 1), (xs (upN r t d) ((cR r (cIdx d r k)).emb i) : EReal)
  | 0, _, d => by rw [Finset.sum_range_one]; rfl
  | k + 1, h, d => by
    rw [msgV_add xs (by omega : k < 14), Finset.sum_range_succ']
    show (msgV xs k r (up d r) i : EReal) + xch xs d r (aIdx d r k) i = _
    rw [msgV_sum r i k (by omega) (up d r), cIdx_up d r ⟨k, by omega⟩]
    rfl

/-- The activation. -/
def actE (s : EReal) : EReal := Ideal.tanh s * s * s + max s 0 * max s 0 * max s 0

theorem total (r : Fin 8) (i : S32x1024.Idx) (d : Dev nD) :
    (addOf (msgV xs 14 r (up d r)) (xch xs d r (aIdx d r 14)) i : EReal) = ∑ c : Dev nD, (xs c ((cR r (aIdx d r 14)).emb i) : EReal) := by
  have h : (addOf (msgV xs 14 r (up d r)) (xch xs d r (aIdx d r 14)) i : EReal)
      = ∑ t ∈ Finset.range 16, (xs (upN r t d) ((cR r (aIdx d r 14)).emb i) : EReal) := by
    rw [Finset.sum_range_succ']
    show (msgV xs 14 r (up d r) i : EReal) + xch xs d r (aIdx d r 14) i = _
    rw [msgV_sum xs r i 14 (by omega) (up d r), cIdx_up d r ⟨14, by omega⟩]
    rfl
  rw [h, Finset.sum_range]
  exact Fintype.sum_bijective (fun t : Fin 16 => upN r t.val d)
    (Finite.injective_iff_bijective.mp fun t t' => upN_inj r d t t') _ _ fun _ => rfl

theorem FIN_eq (i : S4096x1024.Idx) : (FIN xs i : EReal) = actE (∑ c : Dev nD, (xs c i : EReal)) := by
  have hz : (Ideal.ofBits .f32 0x00000000#32 : EReal) = 0 := by simp [Ideal.ofBits, Ideal.ieee]
  have h := total xs (rowR i) (inChunk i) (owner (rowR i) (rowJ i))
  rw [owner_last, emb_inChunk] at h
  rw [← h]
  unfold FIN
  rw [msgV_own, owner_last]
  unfold actE
  rw [← hz]
  rfl
end

/-! ## The reference -/

/-- The reference's result, of its whole argument. -/
def refOut (x : FVec Ideal Cert.ReferenceIdeal.S65536x1024 .bf16) : S4096x1024.Idx → EReal := fun i =>
  actE (∑ c : Fin 16, x (Layout.Tiles.idx (S := ⟨2, ![4096, 1024]⟩) (T := ⟨2, ![65536, 1024]⟩) (a := 0) (k := 16) (by decide) c i))

open Cert.ReferenceIdeal in
theorem ref_sum (x : FVec Ideal S65536x1024 .bf16) (i : S4096x1024.Idx) (h0 h1) (h2 : S16x4096x1024.ReducesTo [0] S4096x1024) (h3) :
    (Host.reduceAdd (F := Ideal) (extf (F := Ideal) .f32 (shapeCast S16x4096x1024 x h1) h0) (constant (F := Ideal) S_ .f32 0x00000000#32) h2 h3 i : EReal)
      = ∑ c : Fin 16, (x (Layout.Tiles.idx (S := ⟨2, ![4096, 1024]⟩) (T := ⟨2, ![65536, 1024]⟩) (a := 0) (k := 16) (by decide) c i) : EReal) := by
  pointwise
  refine Finset.sum_congr rfl fun c _ => congrArg x (funext fun b => ?_)
  match b with
  | ⟨0, _⟩ => exact Fin.ext rfl
  | ⟨1, _⟩ => exact Fin.ext rfl

open Cert.ReferenceIdeal in
/-- The reference's activation of a sum, read at an index. -/
theorem ref_act (v : FVec Ideal S4096x1024 .bf16) (i : S4096x1024.Idx) (h1) :
    (addf (mulf (mulf (Host.tanh v) v) v)
        (mulf (mulf (maximumf v (broadcastInDim S4096x1024 ![] h1 (constant (F := Ideal) S_ .bf16 0x0000#16)))
          (maximumf v (broadcastInDim S4096x1024 ![] h1 (constant (F := Ideal) S_ .bf16 0x0000#16))))
          (maximumf v (broadcastInDim S4096x1024 ![] h1 (constant (F := Ideal) S_ .bf16 0x0000#16)))) i : EReal)
      = actE (v i) := by
  have hz : (Ideal.ofBits .bf16 0x0000#16 : EReal) = 0 := by simp [Ideal.ofBits, Ideal.ieee]
  unfold actE
  rw [← hz]
  rfl

/-- Where the whole argument's blocks are dealt to the devices, both end with the same. -/
theorem FIN_ref (xs : Dev nD → S4096x1024.Idx → Elt Ideal .bf16) (x : FVec Ideal Cert.ReferenceIdeal.S65536x1024 .bf16)
    (h : ∀ c : Dev nD, xs c = Layout.block ⟨2, ![4096, 1024]⟩ ⟨2, ![65536, 1024]⟩ 0 16 c x) : FIN xs = refOut x := by
  funext i
  refine (FIN_eq xs i).trans ?_
  unfold refOut
  refine congrArg actE (Finset.sum_congr rfl fun c _ => ?_)
  rw [h c]
  rfl

end Cert.KernelIdeal.Gen
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

set_option maxRecDepth 200000 in
/-- The two programs' body tables are one. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
theorem defs_eq : Cert.Kernel.defs (F := Bits) = Cert.KernelIdeal.defs (F := Bits) :=
  congrArg (Pipeline.defs Cert.KernelIdeal.pcfgs) defs₀_eq

/-- The program as lowered: the run at bits. The two programs have the same text. -/
theorem frame_kernel : Cert.quiescent_Kernel := fun m ρ _ =>
  (congrArg (fun D => (θ_run D (onTc (τ := Cert.KernelIdeal.τ) (Cert.KernelIdeal.main (F := Bits))) ⟨m, fun _ => 0, ρ⟩)
    (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0)) defs_eq).mpr
  ((θ_run Cert.KernelIdeal.defs _ _).mono
    (fun _ h => ⟨fun c => (h.1 c (0 : Fin 2)).trans (Cert.KernelIdeal.Gen.finalA_x m ρ c), h.2⟩)
    (Cert.KernelIdeal.Gen.run_main (F := Bits) m ρ))

/-- The same at the extended reals. -/
theorem frame_kernelIdeal : Cert.quiescent_KernelIdeal := fun m ρ _ =>
  (θ_run Cert.KernelIdeal.defs _ _).mono
    (fun _ h => ⟨fun c => (h.1 c (0 : Fin 2)).trans (Cert.KernelIdeal.Gen.finalA_x m ρ c), h.2⟩)
    (Cert.KernelIdeal.Gen.run_main (F := Ideal) m ρ)

theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem algebraic : Cert.algebraic_KernelIdeal_ReferenceIdeal := fun m ρ m' ρ' _ hin =>
  ⟨Cert.KernelIdeal.Gen.refOut (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨((h.1 c (1 : Fin 2)).trans (Cert.KernelIdeal.Gen.finalA_o m ρ c)).trans
          (Cert.KernelIdeal.Gen.FIN_ref _ _ hin),
        (h.1 c (0 : Fin 2)).trans (Cert.KernelIdeal.Gen.finalA_x m ρ c)⟩)
      (Cert.KernelIdeal.Gen.run_main (F := Ideal) m ρ),
    (θ_run Cert.ReferenceIdeal.defs _ _).mono
      (fun _ h => ⟨((h 0).1).trans (funext fun i => (Cert.KernelIdeal.Gen.ref_act _ i _).trans
          (congrArg Cert.KernelIdeal.Gen.actE (Cert.KernelIdeal.Gen.ref_sum _ i _ _ _ _))), (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
